-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S2x64x256 : Shape := ⟨3, ![2, 64, 256]⟩
abbrev S2 : Shape := ⟨1, ![2]⟩
abbrev S1x64x256 : Shape := ⟨3, ![1, 64, 256]⟩
abbrev S64x256 : Shape := ⟨2, ![64, 256]⟩
abbrev S1 : Shape := ⟨1, ![1]⟩
abbrev S_ : Shape := ⟨0, ![]⟩
abbrev S16 : Shape := ⟨1, ![16]⟩
abbrev S1x1x16 : Shape := ⟨3, ![1, 1, 16]⟩

abbrev nBuf : Table → Nat
  | .hbm => 2
  | .local .scVector .vmem => 2
  | _ => 0

abbrev bufTy : (tb : Table) → Fin (nBuf tb) → BufTy
  | .hbm, ⟨0, _⟩ => ⟨S4x8192x2048, .f32⟩
  | .hbm, ⟨1, _⟩ => ⟨S4x8192x2048, .f32⟩
  | .local .scVector .vmem, ⟨0, _⟩ => ⟨S2x64x256, .f32⟩
  | .local .scVector .vmem, ⟨1, _⟩ => ⟨S2x64x256, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_14 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 0, v29.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c64_i32 : BitVec 32 := 64#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 64, v29.toNat]
@[reducible] def k0_t1_loop : Scf.Loop 32 :=
  let c0_i32_40 : BitVec 32 := 0#32
  let c64_i32_41 : BitVec 32 := 64#32
  let v66 : BitVec 32 := Scalar.addi c0_i32_40 c64_i32_41
  let c1_i32_42 : BitVec 32 := 1#32
  ⟨c0_i32_40, v66, c1_i32_42⟩
def k0_off3 (i : grid0.Coords) (k0_t1 : Fin k0_t1_loop.trips) (c0_i32_59 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_40 : BitVec 32 := 0#32
  let c1_i32_42 : BitVec 32 := 1#32
  let arg8 : BitVec 32 := Scf.iv c0_i32_40 c1_i32_42 k0_t1
  let c2_i32_58 : BitVec 32 := 2#32
  let v88 : BitVec 32 := Scalar.muli arg8 c2_i32_58
  let v89 : BitVec 32 := Scalar.addi v88 c0_i32_59
  let c64_i32_60 : BitVec 32 := 64#32
  let v90 : BitVec 32 := Scalar.muli v89 c64_i32_60
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v90.toNat, v29.toNat]
def k0_cond1 (k0_t1 : Fin k0_t1_loop.trips) : BitVec 1 :=
  let c0_i32_40 : BitVec 32 := 0#32
  let c1_i32_42 : BitVec 32 := 1#32
  let arg8 : BitVec 32 := Scf.iv c0_i32_40 c1_i32_42 k0_t1
  let c0_i32_67 : BitVec 32 := 0#32
  let v101 : BitVec 1 := Scalar.cmpi .sgt arg8 c0_i32_67
  let v102 : BitVec 32 := Scalar.extui v101
  let c0_i32_68 : BitVec 32 := 0#32
  let v103 : BitVec 1 := Scalar.cmpi .ne v102 c0_i32_68
  v103

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_40 : BitVec 32 := 0#32
  let c1_i32_42 : BitVec 32 := 1#32
  let arg8 : BitVec 32 := Scf.iv c0_i32_40 c1_i32_42 k0_t1
  let c2_i32_58 : BitVec 32 := 2#32
  let v88 : BitVec 32 := Scalar.muli arg8 c2_i32_58
  let c0_i32_59 : BitVec 32 := 0#32
  let v89 : BitVec 32 := Scalar.addi v88 c0_i32_59
  let c2_i32_105 : BitVec 32 := 2#32
  let v152 : BitVec 32 := Scalar.subi v89 c2_i32_105
  let c64_i32_106 : BitVec 32 := 64#32
  let v153 : BitVec 32 := Scalar.muli v152 c64_i32_106
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v153.toNat, v29.toNat]
@[reducible] def k0_t2_loop : Scf.Loop 32 :=
  let c0_i32_69 : BitVec 32 := 0#32
  let c64_i32_70 : BitVec 32 := 64#32
  let v104 : BitVec 32 := Scalar.addi c0_i32_69 c64_i32_70
  let c1_i32_71 : BitVec 32 := 1#32
  ⟨c0_i32_69, v104, c1_i32_71⟩
def k0_off5 (k0_t2 : Fin k0_t2_loop.trips) : Fin 3 → Nat :=
  let c0_i32_105 : BitVec 32 := 0#32
  let v152 : Index := Scalar.indexCast c0_i32_105
  let c0_i32_69 : BitVec 32 := 0#32
  let c1_i32_71 : BitVec 32 := 1#32
  let arg25 : BitVec 32 := Scf.iv c0_i32_69 c1_i32_71 k0_t2
  let v153 : Index := Scalar.indexCast arg25
  let c0 : Index := 0#32
  ![0, v153.toNat, 0]
def k0_off6 (k0_t2 : Fin k0_t2_loop.trips) : Fin 3 → Nat :=
  let c0_i32_108 : BitVec 32 := 0#32
  let v162 : Index := Scalar.indexCast c0_i32_108
  let c0_i32_69 : BitVec 32 := 0#32
  let c1_i32_71 : BitVec 32 := 1#32
  let arg25 : BitVec 32 := Scf.iv c0_i32_69 c1_i32_71 k0_t2
  let v163 : Index := Scalar.indexCast arg25
  let c16 : Index := 16#32
  ![0, v163.toNat, 16]
def k0_off7 (k0_t2 : Fin k0_t2_loop.trips) : Fin 3 → Nat :=
  let c0_i32_111 : BitVec 32 := 0#32
  let v172 : Index := Scalar.indexCast c0_i32_111
  let c0_i32_69 : BitVec 32 := 0#32
  let c1_i32_71 : BitVec 32 := 1#32
  let arg25 : BitVec 32 := Scf.iv c0_i32_69 c1_i32_71 k0_t2
  let v173 : Index := Scalar.indexCast arg25
  let c32 : Index := 32#32
  ![0, v173.toNat, 32]
def k0_off8 (k0_t2 : Fin k0_t2_loop.trips) : Fin 3 → Nat :=
  let c0_i32_114 : BitVec 32 := 0#32
  let v182 : Index := Scalar.indexCast c0_i32_114
  let c0_i32_69 : BitVec 32 := 0#32
  let c1_i32_71 : BitVec 32 := 1#32
  let arg25 : BitVec 32 := Scf.iv c0_i32_69 c1_i32_71 k0_t2
  let v183 : Index := Scalar.indexCast arg25
  let c48 : Index := 48#32
  ![0, v183.toNat, 48]
def k0_off9 (k0_t2 : Fin k0_t2_loop.trips) : Fin 3 → Nat :=
  let c0_i32_117 : BitVec 32 := 0#32
  let v192 : Index := Scalar.indexCast c0_i32_117
  let c0_i32_69 : BitVec 32 := 0#32
  let c1_i32_71 : BitVec 32 := 1#32
  let arg25 : BitVec 32 := Scf.iv c0_i32_69 c1_i32_71 k0_t2
  let v193 : Index := Scalar.indexCast arg25
  let c64 : Index := 64#32
  ![0, v193.toNat, 64]
def k0_off10 (k0_t2 : Fin k0_t2_loop.trips) : Fin 3 → Nat :=
  let c0_i32_120 : BitVec 32 := 0#32
  let v202 : Index := Scalar.indexCast c0_i32_120
  let c0_i32_69 : BitVec 32 := 0#32
  let c1_i32_71 : BitVec 32 := 1#32
  let arg25 : BitVec 32 := Scf.iv c0_i32_69 c1_i32_71 k0_t2
  let v203 : Index := Scalar.indexCast arg25
  let c80 : Index := 80#32
  ![0, v203.toNat, 80]
def k0_off11 (k0_t2 : Fin k0_t2_loop.trips) : Fin 3 → Nat :=
  let c0_i32_123 : BitVec 32 := 0#32
  let v212 : Index := Scalar.indexCast c0_i32_123
  let c0_i32_69 : BitVec 32 := 0#32
  let c1_i32_71 : BitVec 32 := 1#32
  let arg25 : BitVec 32 := Scf.iv c0_i32_69 c1_i32_71 k0_t2
  let v213 : Index := Scalar.indexCast arg25
  let c96 : Index := 96#32
  ![0, v213.toNat, 96]
def k0_off12 (k0_t2 : Fin k0_t2_loop.trips) : Fin 3 → Nat :=
  let c0_i32_126 : BitVec 32 := 0#32
  let v222 : Index := Scalar.indexCast c0_i32_126
  let c0_i32_69 : BitVec 32 := 0#32
  let c1_i32_71 : BitVec 32 := 1#32
  let arg25 : BitVec 32 := Scf.iv c0_i32_69 c1_i32_71 k0_t2
  let v223 : Index := Scalar.indexCast arg25
  let c112 : Index := 112#32
  ![0, v223.toNat, 112]
def k0_off13 (k0_t2 : Fin k0_t2_loop.trips) : Fin 3 → Nat :=
  let c0_i32_129 : BitVec 32 := 0#32
  let v232 : Index := Scalar.indexCast c0_i32_129
  let c0_i32_69 : BitVec 32 := 0#32
  let c1_i32_71 : BitVec 32 := 1#32
  let arg25 : BitVec 32 := Scf.iv c0_i32_69 c1_i32_71 k0_t2
  let v233 : Index := Scalar.indexCast arg25
  let c128 : Index := 128#32
  ![0, v233.toNat, 128]
def k0_off14 (k0_t2 : Fin k0_t2_loop.trips) : Fin 3 → Nat :=
  let c0_i32_132 : BitVec 32 := 0#32
  let v242 : Index := Scalar.indexCast c0_i32_132
  let c0_i32_69 : BitVec 32 := 0#32
  let c1_i32_71 : BitVec 32 := 1#32
  let arg25 : BitVec 32 := Scf.iv c0_i32_69 c1_i32_71 k0_t2
  let v243 : Index := Scalar.indexCast arg25
  let c144 : Index := 144#32
  ![0, v243.toNat, 144]
def k0_off15 (k0_t2 : Fin k0_t2_loop.trips) : Fin 3 → Nat :=
  let c0_i32_135 : BitVec 32 := 0#32
  let v252 : Index := Scalar.indexCast c0_i32_135
  let c0_i32_69 : BitVec 32 := 0#32
  let c1_i32_71 : BitVec 32 := 1#32
  let arg25 : BitVec 32 := Scf.iv c0_i32_69 c1_i32_71 k0_t2
  let v253 : Index := Scalar.indexCast arg25
  let c160 : Index := 160#32
  ![0, v253.toNat, 160]
def k0_off16 (k0_t2 : Fin k0_t2_loop.trips) : Fin 3 → Nat :=
  let c0_i32_138 : BitVec 32 := 0#32
  let v262 : Index := Scalar.indexCast c0_i32_138
  let c0_i32_69 : BitVec 32 := 0#32
  let c1_i32_71 : BitVec 32 := 1#32
  let arg25 : BitVec 32 := Scf.iv c0_i32_69 c1_i32_71 k0_t2
  let v263 : Index := Scalar.indexCast arg25
  let c176 : Index := 176#32
  ![0, v263.toNat, 176]
def k0_off17 (k0_t2 : Fin k0_t2_loop.trips) : Fin 3 → Nat :=
  let c0_i32_141 : BitVec 32 := 0#32
  let v272 : Index := Scalar.indexCast c0_i32_141
  let c0_i32_69 : BitVec 32 := 0#32
  let c1_i32_71 : BitVec 32 := 1#32
  let arg25 : BitVec 32 := Scf.iv c0_i32_69 c1_i32_71 k0_t2
  let v273 : Index := Scalar.indexCast arg25
  let c192 : Index := 192#32
  ![0, v273.toNat, 192]
def k0_off18 (k0_t2 : Fin k0_t2_loop.trips) : Fin 3 → Nat :=
  let c0_i32_144 : BitVec 32 := 0#32
  let v282 : Index := Scalar.indexCast c0_i32_144
  let c0_i32_69 : BitVec 32 := 0#32
  let c1_i32_71 : BitVec 32 := 1#32
  let arg25 : BitVec 32 := Scf.iv c0_i32_69 c1_i32_71 k0_t2
  let v283 : Index := Scalar.indexCast arg25
  let c208 : Index := 208#32
  ![0, v283.toNat, 208]
def k0_off19 (k0_t2 : Fin k0_t2_loop.trips) : Fin 3 → Nat :=
  let c0_i32_147 : BitVec 32 := 0#32
  let v292 : Index := Scalar.indexCast c0_i32_147
  let c0_i32_69 : BitVec 32 := 0#32
  let c1_i32_71 : BitVec 32 := 1#32
  let arg25 : BitVec 32 := Scf.iv c0_i32_69 c1_i32_71 k0_t2
  let v293 : Index := Scalar.indexCast arg25
  let c224 : Index := 224#32
  ![0, v293.toNat, 224]
def k0_off20 (k0_t2 : Fin k0_t2_loop.trips) : Fin 3 → Nat :=
  let c0_i32_150 : BitVec 32 := 0#32
  let v302 : Index := Scalar.indexCast c0_i32_150
  let c0_i32_69 : BitVec 32 := 0#32
  let c1_i32_71 : BitVec 32 := 1#32
  let arg25 : BitVec 32 := Scf.iv c0_i32_69 c1_i32_71 k0_t2
  let v303 : Index := Scalar.indexCast arg25
  let c240 : Index := 240#32
  ![0, v303.toNat, 240]
def k0_cond2 (k0_t1 : Fin k0_t1_loop.trips) : BitVec 1 :=
  let c0_i32_40 : BitVec 32 := 0#32
  let c1_i32_42 : BitVec 32 := 1#32
  let arg8 : BitVec 32 := Scf.iv c0_i32_40 c1_i32_42 k0_t1
  let c63_i32 : BitVec 32 := 63#32
  let v117 : BitVec 1 := Scalar.cmpi .slt arg8 c63_i32
  let v118 : BitVec 32 := Scalar.extui v117
  let c0_i32_80 : BitVec 32 := 0#32
  let v119 : BitVec 1 := Scalar.cmpi .ne v118 c0_i32_80
  v119

def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_40 : BitVec 32 := 0#32
  let c1_i32_42 : BitVec 32 := 1#32
  let arg8 : BitVec 32 := Scf.iv c0_i32_40 c1_i32_42 k0_t1
  let c2_i32_58 : BitVec 32 := 2#32
  let v88 : BitVec 32 := Scalar.muli arg8 c2_i32_58
  let c0_i32_59 : BitVec 32 := 0#32
  let v89 : BitVec 32 := Scalar.addi v88 c0_i32_59
  let c2_i32_105 : BitVec 32 := 2#32
  let v152 : BitVec 32 := Scalar.addi v89 c2_i32_105
  let c64_i32_106 : BitVec 32 := 64#32
  let v153 : BitVec 32 := Scalar.muli v152 c64_i32_106
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v153.toNat, v29.toNat]
def k0_cond3 (k0_t1 : Fin k0_t1_loop.trips) : BitVec 1 :=
  let c0_i32_40 : BitVec 32 := 0#32
  let c1_i32_42 : BitVec 32 := 1#32
  let arg8 : BitVec 32 := Scf.iv c0_i32_40 c1_i32_42 k0_t1
  let c0_i32_90 : BitVec 32 := 0#32
  let v133 : BitVec 1 := Scalar.cmpi .sgt arg8 c0_i32_90
  let v134 : BitVec 32 := Scalar.extui v133
  let c0_i32_91 : BitVec 32 := 0#32
  let v135 : BitVec 1 := Scalar.cmpi .ne v134 c0_i32_91
  v135

def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_40 : BitVec 32 := 0#32
  let c1_i32_42 : BitVec 32 := 1#32
  let arg8 : BitVec 32 := Scf.iv c0_i32_40 c1_i32_42 k0_t1
  let c2_i32_81 : BitVec 32 := 2#32
  let v120 : BitVec 32 := Scalar.muli arg8 c2_i32_81
  let c1_i32_82 : BitVec 32 := 1#32
  let v121 : BitVec 32 := Scalar.addi v120 c1_i32_82
  let c2_i32_105 : BitVec 32 := 2#32
  let v152 : BitVec 32 := Scalar.subi v121 c2_i32_105
  let c64_i32_106 : BitVec 32 := 64#32
  let v153 : BitVec 32 := Scalar.muli v152 c64_i32_106
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v153.toNat, v29.toNat]
@[reducible] def k0_t3_loop : Scf.Loop 32 :=
  let c0_i32_92 : BitVec 32 := 0#32
  let c64_i32_93 : BitVec 32 := 64#32
  let v136 : BitVec 32 := Scalar.addi c0_i32_92 c64_i32_93
  let c1_i32_94 : BitVec 32 := 1#32
  ⟨c0_i32_92, v136, c1_i32_94⟩
def k0_off23 (k0_t3 : Fin k0_t3_loop.trips) : Fin 3 → Nat :=
  let c1_i32_105 : BitVec 32 := 1#32
  let v152 : Index := Scalar.indexCast c1_i32_105
  let c0_i32_92 : BitVec 32 := 0#32
  let c1_i32_94 : BitVec 32 := 1#32
  let arg25 : BitVec 32 := Scf.iv c0_i32_92 c1_i32_94 k0_t3
  let v153 : Index := Scalar.indexCast arg25
  let c0 : Index := 0#32
  ![1, v153.toNat, 0]
def k0_off24 (k0_t3 : Fin k0_t3_loop.trips) : Fin 3 → Nat :=
  let c1_i32_108 : BitVec 32 := 1#32
  let v162 : Index := Scalar.indexCast c1_i32_108
  let c0_i32_92 : BitVec 32 := 0#32
  let c1_i32_94 : BitVec 32 := 1#32
  let arg25 : BitVec 32 := Scf.iv c0_i32_92 c1_i32_94 k0_t3
  let v163 : Index := Scalar.indexCast arg25
  let c16 : Index := 16#32
  ![1, v163.toNat, 16]
def k0_off25 (k0_t3 : Fin k0_t3_loop.trips) : Fin 3 → Nat :=
  let c1_i32_111 : BitVec 32 := 1#32
  let v172 : Index := Scalar.indexCast c1_i32_111
  let c0_i32_92 : BitVec 32 := 0#32
  let c1_i32_94 : BitVec 32 := 1#32
  let arg25 : BitVec 32 := Scf.iv c0_i32_92 c1_i32_94 k0_t3
  let v173 : Index := Scalar.indexCast arg25
  let c32 : Index := 32#32
  ![1, v173.toNat, 32]
def k0_off26 (k0_t3 : Fin k0_t3_loop.trips) : Fin 3 → Nat :=
  let c1_i32_114 : BitVec 32 := 1#32
  let v182 : Index := Scalar.indexCast c1_i32_114
  let c0_i32_92 : BitVec 32 := 0#32
  let c1_i32_94 : BitVec 32 := 1#32
  let arg25 : BitVec 32 := Scf.iv c0_i32_92 c1_i32_94 k0_t3
  let v183 : Index := Scalar.indexCast arg25
  let c48 : Index := 48#32
  ![1, v183.toNat, 48]
def k0_off27 (k0_t3 : Fin k0_t3_loop.trips) : Fin 3 → Nat :=
  let c1_i32_117 : BitVec 32 := 1#32
  let v192 : Index := Scalar.indexCast c1_i32_117
  let c0_i32_92 : BitVec 32 := 0#32
  let c1_i32_94 : BitVec 32 := 1#32
  let arg25 : BitVec 32 := Scf.iv c0_i32_92 c1_i32_94 k0_t3
  let v193 : Index := Scalar.indexCast arg25
  let c64 : Index := 64#32
  ![1, v193.toNat, 64]
def k0_off28 (k0_t3 : Fin k0_t3_loop.trips) : Fin 3 → Nat :=
  let c1_i32_120 : BitVec 32 := 1#32
  let v202 : Index := Scalar.indexCast c1_i32_120
  let c0_i32_92 : BitVec 32 := 0#32
  let c1_i32_94 : BitVec 32 := 1#32
  let arg25 : BitVec 32 := Scf.iv c0_i32_92 c1_i32_94 k0_t3
  let v203 : Index := Scalar.indexCast arg25
  let c80 : Index := 80#32
  ![1, v203.toNat, 80]
def k0_off29 (k0_t3 : Fin k0_t3_loop.trips) : Fin 3 → Nat :=
  let c1_i32_123 : BitVec 32 := 1#32
  let v212 : Index := Scalar.indexCast c1_i32_123
  let c0_i32_92 : BitVec 32 := 0#32
  let c1_i32_94 : BitVec 32 := 1#32
  let arg25 : BitVec 32 := Scf.iv c0_i32_92 c1_i32_94 k0_t3
  let v213 : Index := Scalar.indexCast arg25
  let c96 : Index := 96#32
  ![1, v213.toNat, 96]
def k0_off30 (k0_t3 : Fin k0_t3_loop.trips) : Fin 3 → Nat :=
  let c1_i32_126 : BitVec 32 := 1#32
  let v222 : Index := Scalar.indexCast c1_i32_126
  let c0_i32_92 : BitVec 32 := 0#32
  let c1_i32_94 : BitVec 32 := 1#32
  let arg25 : BitVec 32 := Scf.iv c0_i32_92 c1_i32_94 k0_t3
  let v223 : Index := Scalar.indexCast arg25
  let c112 : Index := 112#32
  ![1, v223.toNat, 112]
def k0_off31 (k0_t3 : Fin k0_t3_loop.trips) : Fin 3 → Nat :=
  let c1_i32_129 : BitVec 32 := 1#32
  let v232 : Index := Scalar.indexCast c1_i32_129
  let c0_i32_92 : BitVec 32 := 0#32
  let c1_i32_94 : BitVec 32 := 1#32
  let arg25 : BitVec 32 := Scf.iv c0_i32_92 c1_i32_94 k0_t3
  let v233 : Index := Scalar.indexCast arg25
  let c128 : Index := 128#32
  ![1, v233.toNat, 128]
def k0_off32 (k0_t3 : Fin k0_t3_loop.trips) : Fin 3 → Nat :=
  let c1_i32_132 : BitVec 32 := 1#32
  let v242 : Index := Scalar.indexCast c1_i32_132
  let c0_i32_92 : BitVec 32 := 0#32
  let c1_i32_94 : BitVec 32 := 1#32
  let arg25 : BitVec 32 := Scf.iv c0_i32_92 c1_i32_94 k0_t3
  let v243 : Index := Scalar.indexCast arg25
  let c144 : Index := 144#32
  ![1, v243.toNat, 144]
def k0_off33 (k0_t3 : Fin k0_t3_loop.trips) : Fin 3 → Nat :=
  let c1_i32_135 : BitVec 32 := 1#32
  let v252 : Index := Scalar.indexCast c1_i32_135
  let c0_i32_92 : BitVec 32 := 0#32
  let c1_i32_94 : BitVec 32 := 1#32
  let arg25 : BitVec 32 := Scf.iv c0_i32_92 c1_i32_94 k0_t3
  let v253 : Index := Scalar.indexCast arg25
  let c160 : Index := 160#32
  ![1, v253.toNat, 160]
def k0_off34 (k0_t3 : Fin k0_t3_loop.trips) : Fin 3 → Nat :=
  let c1_i32_138 : BitVec 32 := 1#32
  let v262 : Index := Scalar.indexCast c1_i32_138
  let c0_i32_92 : BitVec 32 := 0#32
  let c1_i32_94 : BitVec 32 := 1#32
  let arg25 : BitVec 32 := Scf.iv c0_i32_92 c1_i32_94 k0_t3
  let v263 : Index := Scalar.indexCast arg25
  let c176 : Index := 176#32
  ![1, v263.toNat, 176]
def k0_off35 (k0_t3 : Fin k0_t3_loop.trips) : Fin 3 → Nat :=
  let c1_i32_141 : BitVec 32 := 1#32
  let v272 : Index := Scalar.indexCast c1_i32_141
  let c0_i32_92 : BitVec 32 := 0#32
  let c1_i32_94 : BitVec 32 := 1#32
  let arg25 : BitVec 32 := Scf.iv c0_i32_92 c1_i32_94 k0_t3
  let v273 : Index := Scalar.indexCast arg25
  let c192 : Index := 192#32
  ![1, v273.toNat, 192]
def k0_off36 (k0_t3 : Fin k0_t3_loop.trips) : Fin 3 → Nat :=
  let c1_i32_144 : BitVec 32 := 1#32
  let v282 : Index := Scalar.indexCast c1_i32_144
  let c0_i32_92 : BitVec 32 := 0#32
  let c1_i32_94 : BitVec 32 := 1#32
  let arg25 : BitVec 32 := Scf.iv c0_i32_92 c1_i32_94 k0_t3
  let v283 : Index := Scalar.indexCast arg25
  let c208 : Index := 208#32
  ![1, v283.toNat, 208]
def k0_off37 (k0_t3 : Fin k0_t3_loop.trips) : Fin 3 → Nat :=
  let c1_i32_147 : BitVec 32 := 1#32
  let v292 : Index := Scalar.indexCast c1_i32_147
  let c0_i32_92 : BitVec 32 := 0#32
  let c1_i32_94 : BitVec 32 := 1#32
  let arg25 : BitVec 32 := Scf.iv c0_i32_92 c1_i32_94 k0_t3
  let v293 : Index := Scalar.indexCast arg25
  let c224 : Index := 224#32
  ![1, v293.toNat, 224]
def k0_off38 (k0_t3 : Fin k0_t3_loop.trips) : Fin 3 → Nat :=
  let c1_i32_150 : BitVec 32 := 1#32
  let v302 : Index := Scalar.indexCast c1_i32_150
  let c0_i32_92 : BitVec 32 := 0#32
  let c1_i32_94 : BitVec 32 := 1#32
  let arg25 : BitVec 32 := Scf.iv c0_i32_92 c1_i32_94 k0_t3
  let v303 : Index := Scalar.indexCast arg25
  let c240 : Index := 240#32
  ![1, v303.toNat, 240]
def k0_cond4 (k0_t1 : Fin k0_t1_loop.trips) : BitVec 1 :=
  let c0_i32_40 : BitVec 32 := 0#32
  let c1_i32_42 : BitVec 32 := 1#32
  let arg8 : BitVec 32 := Scf.iv c0_i32_40 c1_i32_42 k0_t1
  let c63_i32_103 : BitVec 32 := 63#32
  let v149 : BitVec 1 := Scalar.cmpi .slt arg8 c63_i32_103
  let v150 : BitVec 32 := Scalar.extui v149
  let c0_i32_104 : BitVec 32 := 0#32
  let v151 : BitVec 1 := Scalar.cmpi .ne v150 c0_i32_104
  v151

def k0_off39 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_40 : BitVec 32 := 0#32
  let c1_i32_42 : BitVec 32 := 1#32
  let arg8 : BitVec 32 := Scf.iv c0_i32_40 c1_i32_42 k0_t1
  let c2_i32_81 : BitVec 32 := 2#32
  let v120 : BitVec 32 := Scalar.muli arg8 c2_i32_81
  let c1_i32_82 : BitVec 32 := 1#32
  let v121 : BitVec 32 := Scalar.addi v120 c1_i32_82
  let c2_i32_105 : BitVec 32 := 2#32
  let v152 : BitVec 32 := Scalar.addi v121 c2_i32_105
  let c64_i32_106 : BitVec 32 := 64#32
  let v153 : BitVec 32 := Scalar.muli v152 c64_i32_106
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, v153.toNat, v29.toNat]
def k0_off40 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8064_i32 : BitVec 32 := 8064#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 8064, v29.toNat]
def k0_off41 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8128_i32 : BitVec 32 := 8128#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v18.toNat, 8128, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x2048 : Shape := ⟨3, ![4, 8192, 2048]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S_, .f32⟩
  | .hbm, ⟨2, _⟩ => ⟨S_, .f32⟩
  | .hbm, ⟨3, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Geometry.lean ====
/- The arrays' element sets and the running sum. A tile scans one column slab of the input, in blocks of 64 rows; a
   scratch buffer holds two such blocks, one per slot. Here: which elements those are, what a transfer between a block
   and a slot leaves, and the running sum down a column that the kernel leaves in the output. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Scan

open Cert.KernelIdeal Cert.KernelIdeal.Gen
open Idealize.ShloMosaic

variable {F : FTy → Type}

/-! ## The memrefs the kernel's operands name -/

/-- The input, the output and the two scratch rings, whole. -/
abbrev xV : Memref sig .scVector .hbm S4x8192x2048 .f32 := Memref.whole main_arg0_scv
abbrev oV : Memref sig .scVector .hbm S4x8192x2048 .f32 := Memref.whole main_v0_scv
abbrev iV : Memref sig .scVector .vmem S2x64x256 .f32 := Memref.whole cc0_scratch0
abbrev wV : Memref sig .scVector .vmem S2x64x256 .f32 := Memref.whole cc0_scratch1

/-- The rectangle of one 64-row block of an array, at its first element's coordinates. -/
abbrev blkR (o : Fin 3 → ℕ) (h : ∀ a, o a + S1x64x256.size a ≤ S4x8192x2048.size a) : Rect S4x8192x2048 :=
  Rect.unit (s := S4x8192x2048) o S1x64x256.size h
/-- The rectangle of one slot of a scratch ring. -/
abbrev slotR (o : Fin 3 → ℕ) (h : ∀ a, o a + S1x64x256.size a ≤ S2x64x256.size a) : Rect S2x64x256 :=
  Rect.unit (s := S2x64x256) o S1x64x256.size h

/-- A block of an array as a transfer names it. -/
abbrev blkM (m : Memref sig .scVector .hbm S4x8192x2048 .f32) (o : Fin 3 → ℕ)
    (h : ∀ a, o a + S1x64x256.size a ≤ S4x8192x2048.size a) : Memref sig .scVector .hbm S64x256 .f32 :=
  (m.slice (blkR o h) (fun _ => rfl)).squeeze S64x256 squeezes_S1x64x256_S64x256
/-- A slot of a scratch ring as a transfer names it. -/
abbrev slotM (m : Memref sig .scVector .vmem S2x64x256 .f32) (o : Fin 3 → ℕ)
    (h : ∀ a, o a + S1x64x256.size a ≤ S2x64x256.size a) : Memref sig .scVector .vmem S64x256 .f32 :=
  (m.slice (slotR o h) (fun _ => rfl)).squeeze S64x256 squeezes_S1x64x256_S64x256

/-! ## The element sets -/

/-- The batch a tile scans and the first column of its slab. -/
def bOf (L : grid0.Coords) : ℕ := (2 * (L 1).val + (L 0).val) / 8
def cOf (L : grid0.Coords) : ℕ := (2 * (L 1).val + (L 0).val) % 8 * 256

theorem bOf_lt (L : grid0.Coords) : bOf L < 4 := by
  have h0 : (L 0).val < 2 := (L 0).isLt
  have h1 : (L 1).val < 16 := (L 1).isLt
  unfold bOf; omega

theorem cOf_le (L : grid0.Coords) : cOf L + 256 ≤ 2048 := by
  unfold cOf; omega

/-- The elements of slot `k` of a scratch ring. -/
def slotSet (k : ℕ) : Finset S2x64x256.Idx := Finset.univ.filter fun i => (i 0).val = k

/-- The elements of a tile's slab on the rows from `lo` up to `hi`. -/
def slab (L : grid0.Coords) (lo hi : ℕ) : Finset S4x8192x2048.Idx :=
  Finset.univ.filter fun i => (i 0).val = bOf L ∧ (lo ≤ (i 1).val ∧ (i 1).val < hi) ∧ (cOf L ≤ (i 2).val ∧ (i 2).val < cOf L + 256)

theorem mem_slotSet {k : ℕ} {i : S2x64x256.Idx} : i ∈ slotSet k ↔ (i 0).val = k := by simp [slotSet]

theorem mem_slab {L : grid0.Coords} {lo hi : ℕ} {i : S4x8192x2048.Idx} :
    i ∈ slab L lo hi ↔ (i 0).val = bOf L ∧ (lo ≤ (i 1).val ∧ (i 1).val < hi) ∧ (cOf L ≤ (i 2).val ∧ (i 2).val < cOf L + 256) := by
  simp [slab]

/-- A slab's rows split at a row between its ends. -/
theorem slab_union (L : grid0.Coords) {lo mid hi : ℕ} (h₁ : lo ≤ mid) (h₂ : mid ≤ hi) :
    slab L lo hi = slab L lo mid ∪ slab L mid hi := by
  ext i; simp only [Finset.mem_union, mem_slab]; omega

theorem slab_disjoint (L : grid0.Coords) (lo mid hi : ℕ) : Disjoint (slab L lo mid) (slab L mid hi) := by
  rw [Finset.disjoint_left]; intro i h₁ h₂; rw [mem_slab] at h₁ h₂; omega

/-- No rows, no elements. -/
theorem slab_empty (L : grid0.Coords) {lo hi : ℕ} (h : hi ≤ lo) : slab L lo hi = ∅ := by
  ext i; simp only [mem_slab, Finset.notMem_empty, iff_false]; omega

/-- The two slots are the whole ring, and share nothing. -/
theorem slot_union : (Finset.univ : Finset S2x64x256.Idx) = slotSet 0 ∪ slotSet 1 := by
  ext i
  have : (i 0).val < 2 := (i 0).isLt
  simp only [Finset.mem_univ, Finset.mem_union, mem_slotSet, true_iff]; omega

theorem slot_disjoint : Disjoint (slotSet 0) (slotSet 1) := by
  rw [Finset.disjoint_left]; intro i h₁ h₂; rw [mem_slotSet] at h₁ h₂; omega

/-- A block's rectangle covers the slab's rows of that block. -/
theorem set_blkR (L : grid0.Coords) (n : ℕ) (o : Fin 3 → ℕ) (h : ∀ a, o a + S1x64x256.size a ≤ S4x8192x2048.size a)
    (ho : o = ![bOf L, 64 * n, cOf L]) : (blkR o h).set = slab L (64 * n) (64 * n + 64) := by
  ext i
  rw [Rect.mem_set_unit, mem_slab]
  subst ho
  constructor
  · intro hh
    have h0 := hh 0; have h1 := hh 1; have h2 := hh 2
    simp [S1x64x256] at h0 h1 h2
    omega
  · rintro ⟨h0, h1, h2⟩ a
    fin_cases a <;> simp [S1x64x256] <;> omega

/-- A slot's rectangle covers the slot. -/
theorem set_slotR (k : ℕ) (o : Fin 3 → ℕ) (h : ∀ a, o a + S1x64x256.size a ≤ S2x64x256.size a)
    (ho : o = ![k, 0, 0]) : (slotR o h).set = slotSet k := by
  ext i
  rw [Rect.mem_set_unit, mem_slotSet]
  subst ho
  have h1 : (i 1).val < 64 := (i 1).isLt
  have h2 : (i 2).val < 256 := (i 2).isLt
  constructor
  · intro hh
    have h0 := hh 0
    simp [S1x64x256] at h0
    omega
  · intro h0 a
    fin_cases a <;> simp [S1x64x256] <;> omega

theorem set_blkX (L : grid0.Coords) (n : ℕ) (o : Fin 3 → ℕ) (h : ∀ a, o a + S1x64x256.size a ≤ S4x8192x2048.size a)
    (ho : o = ![bOf L, 64 * n, cOf L]) : (blkM xV o h).view.set = slab L (64 * n) (64 * n + 64) := by
  show (((xV : Memref sig .scVector .hbm S4x8192x2048 .f32).view.slice (blkR o h)).reshape S64x256 squeezes_S1x64x256_S64x256.numel_eq).set = _
  rw [View.set_reshape, ← set_blkR L n o h ho]
  exact View.set_slice_whole main_arg0_scv (blkR o h)

theorem set_blkO (L : grid0.Coords) (n : ℕ) (o : Fin 3 → ℕ) (h : ∀ a, o a + S1x64x256.size a ≤ S4x8192x2048.size a)
    (ho : o = ![bOf L, 64 * n, cOf L]) : (blkM oV o h).view.set = slab L (64 * n) (64 * n + 64) := by
  show (((oV : Memref sig .scVector .hbm S4x8192x2048 .f32).view.slice (blkR o h)).reshape S64x256 squeezes_S1x64x256_S64x256.numel_eq).set = _
  rw [View.set_reshape, ← set_blkR L n o h ho]
  exact View.set_slice_whole main_v0_scv (blkR o h)

theorem set_slotI (k : ℕ) (o : Fin 3 → ℕ) (h : ∀ a, o a + S1x64x256.size a ≤ S2x64x256.size a)
    (ho : o = ![k, 0, 0]) : (slotM iV o h).view.set = slotSet k := by
  show (((iV : Memref sig .scVector .vmem S2x64x256 .f32).view.slice (slotR o h)).reshape S64x256 squeezes_S1x64x256_S64x256.numel_eq).set = _
  rw [View.set_reshape, ← set_slotR k o h ho]
  exact View.set_slice_whole cc0_scratch0 (slotR o h)

theorem set_slotW (k : ℕ) (o : Fin 3 → ℕ) (h : ∀ a, o a + S1x64x256.size a ≤ S2x64x256.size a)
    (ho : o = ![k, 0, 0]) : (slotM wV o h).view.set = slotSet k := by
  show (((wV : Memref sig .scVector .vmem S2x64x256 .f32).view.slice (slotR o h)).reshape S64x256 squeezes_S1x64x256_S64x256.numel_eq).set = _
  rw [View.set_reshape, ← set_slotR k o h ho]
  exact View.set_slice_whole cc0_scratch1 (slotR o h)

/-! ## What a transfer between a block and a slot leaves -/

/-- Slot `k` of the ring contents `f` holds block `n` of the tile's slab of the array contents `X`. -/
def Holds (X : S4x8192x2048.Idx → F .f32) (L : grid0.Coords) (n k : ℕ) (f : S2x64x256.Idx → F .f32) : Prop :=
  ∀ (i : S2x64x256.Idx) (j : S4x8192x2048.Idx), (i 0).val = k → (j 0).val = bOf L → (j 1).val = 64 * n + (i 1).val →
    (j 2).val = cOf L + (i 2).val → f i = X j

/-- One squeezed index placed at once in the slot and in the block: matching elements have a common index. -/
theorem common_index {L : grid0.Coords} {n k : ℕ} {oB : Fin 3 → ℕ} {hB : ∀ a, oB a + S1x64x256.size a ≤ S4x8192x2048.size a}
    {oS : Fin 3 → ℕ} {hS : ∀ a, oS a + S1x64x256.size a ≤ S2x64x256.size a} (hoB : oB = ![bOf L, 64 * n, cOf L]) (hoS : oS = ![k, 0, 0])
    {i : S2x64x256.Idx} {j : S4x8192x2048.Idx} (h0 : (i 0).val = k) (hj0 : (j 0).val = bOf L) (hj1 : (j 1).val = 64 * n + (i 1).val)
    (hj2 : (j 2).val = cOf L + (i 2).val) :
    ∃ z : S64x256.Idx, (slotR oS hS).emb (Shape.reshapeEquiv squeezes_S1x64x256_S64x256.numel_eq z) = i
      ∧ (blkR oB hB).emb (Shape.reshapeEquiv squeezes_S1x64x256_S64x256.numel_eq z) = j := by
  subst hoB hoS
  let y : S1x64x256.Idx := fun a => match a with
    | ⟨0, _⟩ => (⟨0, Nat.one_pos⟩ : Fin 1)
    | ⟨1, _⟩ => i 1
    | ⟨2, _⟩ => i 2
    | ⟨_ + 3, h⟩ => absurd h (by simp [S1x64x256])
  refine ⟨(Shape.reshapeEquiv squeezes_S1x64x256_S64x256.numel_eq).symm y, ?_, ?_⟩ <;> rw [Equiv.apply_symm_apply]
  · funext a
    apply Fin.ext
    rw [Rect.emb_apply]
    fin_cases a <;> simp [Rect.unit, y] <;> omega
  · funext a
    apply Fin.ext
    rw [Rect.emb_apply]
    fin_cases a <;> simp [Rect.unit, y] <;> omega

/-- A block of the input copied into a slot: the slot holds the block. -/
theorem holds_gather {L : grid0.Coords} {n k : ℕ} {oB : Fin 3 → ℕ} {hB : ∀ a, oB a + S1x64x256.size a ≤ S4x8192x2048.size a}
    {oS : Fin 3 → ℕ} {hS : ∀ a, oS a + S1x64x256.size a ≤ S2x64x256.size a} (hoB : oB = ![bOf L, 64 * n, cOf L]) (hoS : oS = ![k, 0, 0])
    (x : S4x8192x2048.Idx → F .f32) (f : S2x64x256.Idx → F .f32) :
    Holds x L n k ((slotM iV oS hS).view.write (Elt F) f ((blkM xV oB hB).view.read (Elt F) x) Finset.univ) := by
  intro i j h0 hj0 hj1 hj2
  obtain ⟨z, hi, hj⟩ := common_index (hB := hB) (hS := hS) hoB hoS h0 hj0 hj1 hj2
  have hi' : (slotM iV oS hS).view.emb z = i := hi
  have hj' : (blkM xV oB hB).view.emb z = j := hj
  rw [← hi', View.write_emb_of_mem _ _ (Finset.mem_univ z), View.read_apply, hj']
  rfl

/-- A slot holding a block of `X` copied into that block of the output: the output is `X` there. -/
theorem holds_scatter {L : grid0.Coords} {n k : ℕ} {oB : Fin 3 → ℕ} {hB : ∀ a, oB a + S1x64x256.size a ≤ S4x8192x2048.size a}
    {oS : Fin 3 → ℕ} {hS : ∀ a, oS a + S1x64x256.size a ≤ S2x64x256.size a} (hoB : oB = ![bOf L, 64 * n, cOf L]) (hoS : oS = ![k, 0, 0])
    (hk : k < 2) (X : S4x8192x2048.Idx → F .f32) (f : S2x64x256.Idx → F .f32) (hf : Holds X L n k f) (g : S4x8192x2048.Idx → F .f32) :
    ∀ j ∈ slab L (64 * n) (64 * n + 64),
      ((blkM oV oB hB).view.write (Elt F) g ((slotM wV oS hS).view.read (Elt F) f) Finset.univ) j = X j := by
  intro j hj
  rw [mem_slab] at hj
  let i : S2x64x256.Idx := fun a => match a with
    | ⟨0, _⟩ => (⟨k, hk⟩ : Fin 2)
    | ⟨1, _⟩ => (⟨(j 1).val - 64 * n, by omega⟩ : Fin 64)
    | ⟨2, _⟩ => (⟨(j 2).val - cOf L, by omega⟩ : Fin 256)
    | ⟨_ + 3, h⟩ => absurd h (by simp [S2x64x256])
  have h0 : (i 0).val = k := rfl
  have hi1 : (i 1).val = (j 1).val - 64 * n := rfl
  have hi2 : (i 2).val = (j 2).val - cOf L := rfl
  have hj1 : (j 1).val = 64 * n + (i 1).val := by omega
  have hj2 : (j 2).val = cOf L + (i 2).val := by omega
  obtain ⟨z, hi, hj'⟩ := common_index (hB := hB) (hS := hS) hoB hoS h0 hj.1 hj1 hj2
  have hi' : (slotM wV oS hS).view.emb z = i := hi
  have hj'' : (blkM oV oB hB).view.emb z = j := hj'
  rw [← hf i j h0 hj.1 hj1 hj2]
  conv_lhs => rw [← hj'']
  rw [View.write_emb_of_mem _ _ (Finset.mem_univ z), View.read_apply, hi']
  rfl

/-! ## The running sum down a column -/

/-- The array index at a batch, a row and a column, each reduced to its range. -/
def idx3 (b r c : ℕ) : S4x8192x2048.Idx := fun a => match a with
  | ⟨0, _⟩ => (⟨b % 4, Nat.mod_lt _ (by decide)⟩ : Fin 4)
  | ⟨1, _⟩ => (⟨r % 8192, Nat.mod_lt _ (by decide)⟩ : Fin 8192)
  | ⟨2, _⟩ => (⟨c % 2048, Nat.mod_lt _ (by decide)⟩ : Fin 2048)
  | ⟨_ + 3, h⟩ => absurd h (by simp [S4x8192x2048])

theorem idx3_eq (j : S4x8192x2048.Idx) {b r c : ℕ} (h0 : (j 0).val = b) (h1 : (j 1).val = r) (h2 : (j 2).val = c) : idx3 b r c = j := by
  subst h0 h1 h2
  funext a
  match a with
  | ⟨0, _⟩ => exact Fin.ext (Nat.mod_eq_of_lt (j 0).isLt)
  | ⟨1, _⟩ => exact Fin.ext (Nat.mod_eq_of_lt (j 1).isLt)
  | ⟨2, _⟩ => exact Fin.ext (Nat.mod_eq_of_lt (j 2).isLt)
  | ⟨_ + 3, h⟩ => exact absurd h (by simp [S4x8192x2048])

variable [FloatOps F]

/-- The sum of the first `n` rows of a column, accumulated from the first row on from the zero constant. -/
def csum (x : S4x8192x2048.Idx → F .f32) (b c : ℕ) : ℕ → F .f32
  | 0 => Scalar.ofBits .f32 0x00000000#32
  | n + 1 => FloatOps.addf (csum x b c n) (x (idx3 b n c))

/-- The output: at each element, the sum of its column down to and including its row. -/
def G (x : S4x8192x2048.Idx → F .f32) (i : S4x8192x2048.Idx) : F .f32 := csum x (i 0).val (i 2).val ((i 1).val + 1)

/-- The running sums of a tile's slab over block `n`: `t` rows of the block in, at column `c` of the slab. -/
def run (x : S4x8192x2048.Idx → F .f32) (L : grid0.Coords) (n t c : ℕ) : F .f32 := csum x (bOf L) (cOf L + c) (64 * n + t)

/-- A row of the block adds the slot's element. -/
theorem run_step {x : S4x8192x2048.Idx → F .f32} {L : grid0.Coords} {n k : ℕ} (hn : n < 128) {f : S2x64x256.Idx → F .f32}
    (hf : Holds x L n k f) (i : S2x64x256.Idx) (hi : (i 0).val = k) :
    run x L n ((i 1).val + 1) (i 2).val = FloatOps.addf (run x L n (i 1).val (i 2).val) (f i) := by
  have h1 : (i 1).val < 64 := (i 1).isLt
  have h2 : (i 2).val < 256 := (i 2).isLt
  have hb := bOf_lt L
  have hc := cOf_le L
  rw [hf i (idx3 (bOf L) (64 * n + (i 1).val) (cOf L + (i 2).val)) hi (Nat.mod_eq_of_lt hb) (Nat.mod_eq_of_lt (by omega))
    (Nat.mod_eq_of_lt (by omega))]
  rfl

/-- A block's end is the next block's start. -/
theorem run_next (x : S4x8192x2048.Idx → F .f32) (L : grid0.Coords) (n : ℕ) : run x L n 64 = run x L (n + 1) 0 := by
  funext c; unfold run; congr 1

/-- A slot filled with a block's running sums holds that block of the output. -/
theorem holds_run {x : S4x8192x2048.Idx → F .f32} {L : grid0.Coords} {n k : ℕ} {f : S2x64x256.Idx → F .f32}
    (hf : ∀ i : S2x64x256.Idx, (i 0).val = k → f i = run x L n ((i 1).val + 1) (i 2).val) : Holds (G x) L n k f := by
  intro i j h0 hj0 hj1 hj2
  rw [hf i h0]
  unfold run G
  rw [hj0, hj1, hj2, Nat.add_assoc]

/-! ## The offsets the kernel computes -/

theorem trips_outer (t : Fin k0_t1_loop.trips) : t.val < 64 := lt_of_lt_of_le t.isLt k0_t1_abs.2.1

theorem off1_eq : ∀ L : grid0.Coords, k0_off1 L = ![bOf L, 64 * 0, cOf L] := by decide +kernel
theorem off2_eq : ∀ L : grid0.Coords, k0_off2 L = ![bOf L, 64 * 1, cOf L] := by decide +kernel
theorem off40_eq : ∀ L : grid0.Coords, k0_off40 L = ![bOf L, 64 * 126, cOf L] := by decide +kernel
theorem off41_eq : ∀ L : grid0.Coords, k0_off41 L = ![bOf L, 64 * 127, cOf L] := by decide +kernel
theorem off3_eq0 : ∀ (L : grid0.Coords) (t : Fin k0_t1_loop.trips), k0_off3 L t 0#32 = ![bOf L, 64 * (2 * t.val), cOf L] := by decide +kernel
theorem off3_eq1 : ∀ (L : grid0.Coords) (t : Fin k0_t1_loop.trips), k0_off3 L t 1#32 = ![bOf L, 64 * (2 * t.val + 1), cOf L] := by decide +kernel
theorem off4_eq : ∀ (L : grid0.Coords) (t : Fin k0_t1_loop.trips), 0 < t.val → k0_off4 L t = ![bOf L, 64 * (2 * t.val - 2), cOf L] := by decide +kernel
theorem off22_eq : ∀ (L : grid0.Coords) (t : Fin k0_t1_loop.trips), 0 < t.val → k0_off22 L t = ![bOf L, 64 * (2 * t.val + 1 - 2), cOf L] := by decide +kernel
theorem off21_eq : ∀ (L : grid0.Coords) (t : Fin k0_t1_loop.trips), t.val < 63 → k0_off21 L t = ![bOf L, 64 * (2 * t.val + 2), cOf L] := by decide +kernel
theorem off39_eq : ∀ (L : grid0.Coords) (t : Fin k0_t1_loop.trips), t.val < 63 → k0_off39 L t = ![bOf L, 64 * (2 * t.val + 1 + 2), cOf L] := by decide +kernel

theorem cond1_iff : ∀ t : Fin k0_t1_loop.trips, k0_cond1 t = 1#1 ↔ 0 < t.val := by decide +kernel
theorem cond2_iff : ∀ t : Fin k0_t1_loop.trips, k0_cond2 t = 1#1 ↔ t.val < 63 := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val < 63 := by decide +kernel

end Cert.KernelIdeal.Scan

end
-- ==== Proof.KernelIdeal.Setup.lean ====
/- The program as the launch theorem sees it, the resource algebra, and the locations and threads the proof names. -/
module

public import proofs.«01_k».proof.Proof.KernelIdeal.Geometry

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's cells are the signature's: distinct, and none of them scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Threads and locations -/

/-- The SparseCore and the vector subcore a tile's coordinates name, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The input and the output of device `d`; a tile's two rings. -/
abbrev xLoc (d : Dev nD) : Loc nD τ sig := (SparseCore.T d).loc main_arg0
abbrev oLoc (d : Dev nD) : Loc nD τ sig := (SparseCore.T d).loc main_v0
abbrev iLoc (d : Dev nD) (L : grid0.Coords) : Loc nD τ sig := (thr d L).loc cc0_scratch0
abbrev wLoc (d : Dev nD) (L : grid0.Coords) : Loc nD τ sig := (thr d L).loc cc0_scratch1

/-- A weakest precondition of a tile's program. -/
abbrev wpT [FloatOps F] (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

end Cert.KernelIdeal.Scan

end
-- ==== Proof.KernelIdeal.Rows.lean ====
/- One row of a block. Both of the kernel's inner loops take a row of the input slot, 16 lanes at a time: each chunk is
   added to its accumulator and the new accumulator is stored at the same place of the output slot. -/
module

public import proofs.«01_k».proof.Proof.KernelIdeal.Setup

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Chunks of a row -/

/-- Lanes `16 j` to `16 j + 15` of a row given by its columns. -/
def chunk (g : ℕ → F .f32) (j : ℕ) : FVec F S16 .f32 := fun l => g (16 * j + (l 0).val)

/-- The one free coordinate of a chunk, as a vector and as a piece of a slot's row. -/
theorem lane_of (l : S16.Idx) : ((Shape.reshapeEquiv shapeCasts_S1x1x16_S16 l : S1x1x16.Idx) 2).val = (l 0).val := by
  have h := Shape.rowMajor_reshapeEquiv shapeCasts_S1x1x16_S16 l
  rw [Shape.rowMajor_val_three, Shape.rowMajor_val_one] at h
  have h0 : ((Shape.reshapeEquiv shapeCasts_S1x1x16_S16 l : S1x1x16.Idx) 0).val < 1 := Fin.isLt _
  have h1 : ((Shape.reshapeEquiv shapeCasts_S1x1x16_S16 l : S1x1x16.Idx) 1).val < 1 := Fin.isLt _
  rw [Nat.lt_one_iff.mp h0, Nat.lt_one_iff.mp h1] at h
  simpa using h

theorem of_lane (y : S1x1x16.Idx) : ((Shape.reshapeEquiv shapeCasts_S16_S1x1x16 y : S16.Idx) 0).val = (y 2).val := by
  have h := Shape.rowMajor_reshapeEquiv shapeCasts_S16_S1x1x16 y
  rw [Shape.rowMajor_val_three, Shape.rowMajor_val_one] at h
  have h0 : (y 0).val < 1 := Fin.isLt _
  have h1 : (y 1).val < 1 := Fin.isLt _
  rw [Nat.lt_one_iff.mp h0, Nat.lt_one_iff.mp h1] at h
  simpa using h

/-- The rectangle of one chunk of one row of a slot. -/
abbrev chR (o : Fin 3 → ℕ) (h : ∀ a, o a + S1x1x16.size a ≤ S2x64x256.size a) : Rect S2x64x256 :=
  Rect.unit (s := S2x64x256) o S1x1x16.size h

theorem chR_emb {k t j : ℕ} {o : Fin 3 → ℕ} {h : ∀ a, o a + S1x1x16.size a ≤ S2x64x256.size a} (ho : o = ![k, t, 16 * j]) (y : (chR o h).shape.Idx) :
    ((chR o h).emb y 0).val = k ∧ ((chR o h).emb y 1).val = t ∧ ((chR o h).emb y 2).val = 16 * j + (y 2).val := by
  subst ho
  have h0 : (y 0).val < 1 := (y 0).isLt
  have h1 : (y 1).val < 1 := (y 1).isLt
  refine ⟨?_, ?_, ?_⟩ <;> rw [Rect.emb_apply] <;> simp [Rect.unit] <;> omega

theorem chR_sub {k t j : ℕ} {o : Fin 3 → ℕ} {h : ∀ a, o a + S1x1x16.size a ≤ S2x64x256.size a} (ho : o = ![k, t, 16 * j]) :
    (chR o h).set ⊆ slotSet k := by
  intro i hi
  rw [Rect.mem_set_unit] at hi
  subst ho
  have h0 := hi 0
  rw [mem_slotSet]
  simp [S1x1x16] at h0
  omega

/-- Slot `k` of `f` is filled with `R`'s next sums up to chunk `j` of row `t`. -/
def Filled (k t j : ℕ) (R : ℕ → ℕ → F .f32) (f : S2x64x256.Idx → F .f32) : Prop :=
  ∀ i : S2x64x256.Idx, (i 0).val = k → ((i 1).val < t ∨ ((i 1).val = t ∧ (i 2).val < 16 * j)) → f i = R ((i 1).val + 1) (i 2).val

/-- What the added chunk is: the next sums of its columns. -/
theorem add_chunk {k t j : ℕ} {R : ℕ → ℕ → F .f32} {f : S2x64x256.Idx → F .f32}
    (hR : ∀ i : S2x64x256.Idx, (i 0).val = k → R ((i 1).val + 1) (i 2).val = FloatOps.addf (R (i 1).val (i 2).val) (f i))
    {o : Fin 3 → ℕ} {h : ∀ a, o a + S1x1x16.size a ≤ S2x64x256.size a} (ho : o = ![k, t, 16 * j]) :
    addf (chunk (R t) j) (shapeCast S16 ((iV : Memref sig .scVector .vmem S2x64x256 .f32).view.readAt (Elt F) (chR o h).toLoadRect f) shapeCasts_S1x1x16_S16)
      = chunk (R (t + 1)) j := by
  funext l
  obtain ⟨e0, e1, e2⟩ := chR_emb (h := h) ho (Shape.reshapeEquiv shapeCasts_S1x1x16_S16 l)
  rw [lane_of] at e2
  have hh := hR ((chR o h).emb (Shape.reshapeEquiv shapeCasts_S1x1x16_S16 l)) e0
  rw [e1, e2] at hh
  exact hh.symm

/-- Storing the added chunk fills the slot by one chunk. -/
theorem filled_store {k t j : ℕ} {R : ℕ → ℕ → F .f32} {g : S2x64x256.Idx → F .f32} (hg : Filled k t j R g)
    {o : Fin 3 → ℕ} {h : ∀ a, o a + S1x1x16.size a ≤ S2x64x256.size a} (ho : o = ![k, t, 16 * j]) :
    Filled k t (j + 1) R (((wV : Memref sig .scVector .vmem S2x64x256 .f32).access (chR o h)).write (Elt F) g
      (shapeCast S1x1x16 (chunk (R (t + 1)) j) shapeCasts_S16_S1x1x16) Finset.univ) := by
  intro i hi0 hi
  by_cases hin : i ∈ (chR o h).set
  · obtain ⟨y, hy⟩ := (chR o h).exists_idx_of_mem hin
    have hy' : ((wV : Memref sig .scVector .vmem S2x64x256 .f32).access (chR o h)).emb y = i := hy
    obtain ⟨-, e1, e2⟩ := chR_emb (h := h) ho y
    have hy'' : (chR o h).emb y = i := hy
    rw [hy''] at e1 e2
    rw [e1, e2, ← hy', View.write_emb_of_mem _ _ (Finset.mem_univ y)]
    show R (t + 1) (16 * j + ((Shape.reshapeEquiv shapeCasts_S16_S1x1x16 y : S16.Idx) 0).val) = _
    rw [of_lane]
  · rw [View.write_of_not_mem]
    · refine hg i hi0 ?_
      rcases hi with hi | ⟨hi1, hi2⟩
      · exact .inl hi
      · refine .inr ⟨hi1, ?_⟩
        by_contra hlt
        apply hin
        rw [Rect.mem_set_unit]
        subst ho
        intro a
        fin_cases a <;> simp [S1x1x16] <;> omega
    · intro hmem
      apply hin
      obtain ⟨y, -, hy⟩ := Finset.mem_map.mp hmem
      rw [← hy]
      exact (chR o h).idx_mem y

/-! ## The chunk as the program runs it -/

variable (d : Dev nD) (L : grid0.Coords)

/-- The output slot `k` filled up to chunk `j` of row `t`. -/
def OutUpTo (k t j : ℕ) (R : ℕ → ℕ → F .f32) : sProp 𝕄 :=
  iprop(∃ g : Buf (Elt F) (wLoc d L), ⌜Filled k t j R g⌝ ∗ wLoc d L ↦[slotSet k]{fullShare} g)

/-- A chunk: its lanes of the input slot's row loaded, those of the output slot's row loaded and not used, and the
    accumulator with the input's lanes added stored there. -/
theorem wp_chunk {k t j : ℕ} {R : ℕ → ℕ → F .f32} {f : Buf (Elt F) (iLoc d L)}
    (hR : ∀ i : S2x64x256.Idx, (i 0).val = k → R ((i 1).val + 1) (i 2).val = FloatOps.addf (R (i 1).val (i 2).val) (f i))
    {o : Fin 3 → ℕ} {h : ∀ a, o a + S1x1x16.size a ≤ S2x64x256.size a} (ho : o = ![k, t, 16 * j])
    {a : FVec F S16 .f32} (ha : a = chunk (R t) j)
    {pay : FVec F S1x1x16 .f32 → FVec F S1x1x16 .f32}
    (hpay : ∀ v, pay v = shapeCast S1x1x16 (addf a (shapeCast S16 v shapeCasts_S1x1x16_S16)) shapeCasts_S16_S1x1x16)
    {hl : (iV : Memref sig .scVector .vmem S2x64x256 .f32).view.LoadsAt (chR o h).toLoadRect}
    {hl' : (wV : Memref sig .scVector .vmem S2x64x256 .f32).view.LoadsAt (chR o h).toLoadRect}
    {hx : ((wV : Memref sig .scVector .vmem S2x64x256 .f32).access (chR o h)).Stores Finset.univ}
    {hm : (Finset.univ : Finset (chR o h).shape.Idx) = Finset.univ ∨ ∀ a, (chR o h).stride a = 1}
    {α : Type} {Kc : FVec F S1x1x16 .f32 → PUnit → Prog (TpuEff nD τ sig (Elt F) Λ₀ (thr d L).2) α} {Q : α → sProp 𝕄} :
    iprop((iLoc d L ↦[slotSet k]{fullShare} f) ∗ OutUpTo d L k t j R)
      ⊢ iprop((∀ v, ⌜addf a (shapeCast S16 v shapeCasts_S1x1x16_S16) = chunk (R (t + 1)) j⌝
            -∗ (iLoc d L ↦[slotSet k]{fullShare} f) -∗ OutUpTo d L k t (j + 1) R -∗ wpT d L (Kc v ⟨⟩) Q)
        -∗ wpT d L (.op (.load iV (chR o h).toLoadRect hl) fun (v : FVec F S1x1x16 .f32) => .op (.load wV (chR o h).toLoadRect hl') fun _ =>
            .op (.store wV (chR o h) (pay v) Finset.univ hx hm) (Kc v)) Q) := by
  have hsub : (iV : Memref sig .scVector .vmem S2x64x256 .f32).view.setOn (chR o h).toLoadRect.set ⊆ slotSet k := by
    intro i hi
    obtain ⟨y, hy, rfl⟩ := Finset.mem_map.mp hi
    exact chR_sub ho hy
  have hsub' : (wV : Memref sig .scVector .vmem S2x64x256 .f32).view.setOn (chR o h).toLoadRect.set ⊆ slotSet k := by
    intro i hi
    obtain ⟨y, hy, rfl⟩ := Finset.mem_map.mp hi
    exact chR_sub ho hy
  have hst : ((wV : Memref sig .scVector .vmem S2x64x256 .f32).access (chR o h)).setOn Finset.univ ⊆ slotSet k := by
    intro i hi
    obtain ⟨y, -, rfl⟩ := Finset.mem_map.mp hi
    exact chR_sub ho ((chR o h).idx_mem y)
  unfold OutUpTo
  iintro ⟨Hi, %g, %hg, Hw⟩ Hk
  iapply (wp_load 𝒱₀ (thr d L) none Set.univ (m := iV) (S := slotSet k) hsub) $$ Hi
  iintro Hi
  iapply (wp_load 𝒱₀ (thr d L) none Set.univ (m := wV) (S := slotSet k) hsub') $$ Hw
  iintro Hw
  iapply (wp_store 𝒱₀ (thr d L) none Set.univ (m := wV) (r := chR o h) (S := slotSet k) hst) $$ Hw
  iintro Hw
  have hv := add_chunk hR (h := h) ho
  iapply Hk $$ %_ %(ha ▸ hv) Hi [Hw]
  iexists _
  isplitr
  · ipureintro; exact filled_store hg (h := h) ho
  · rw [hpay, ha, hv]; iexact Hw

end Cert.KernelIdeal.Scan

end
-- ==== Proof.KernelIdeal.Loops.lean ====
/- The two inner loops: a block's 64 rows scanned from the input slot into the output slot of the same number, the 16
   accumulators carrying the columns' running sums from row to row. -/
module

public import proofs.«01_k».proof.Proof.KernelIdeal.Rows

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The accumulators -/

/-- The 16 accumulators of a row of sums. -/
abbrev Accs : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The 16 chunks of a row given by its columns. -/
def accs (g : ℕ → F .f32) : Accs (F := F) :=
  (chunk g 0, chunk g 1, chunk g 2, chunk g 3, chunk g 4, chunk g 5, chunk g 6, chunk g 7, chunk g 8, chunk g 9, chunk g 10, chunk g 11, chunk g 12, chunk g 13, chunk g 14, chunk g 15)

theorem accs_ext {g : ℕ → F .f32} {a0 a1 a2 a3 a4 a5 a6 a7 a8 a9 a10 a11 a12 a13 a14 a15 : FVec F S16 .f32}
    (h0 : a0 = chunk g 0) (h1 : a1 = chunk g 1) (h2 : a2 = chunk g 2) (h3 : a3 = chunk g 3) (h4 : a4 = chunk g 4) (h5 : a5 = chunk g 5) (h6 : a6 = chunk g 6) (h7 : a7 = chunk g 7) (h8 : a8 = chunk g 8) (h9 : a9 = chunk g 9) (h10 : a10 = chunk g 10) (h11 : a11 = chunk g 11) (h12 : a12 = chunk g 12) (h13 : a13 = chunk g 13) (h14 : a14 = chunk g 14) (h15 : a15 = chunk g 15) :
    ((a0, a1, a2, a3, a4, a5, a6, a7, a8, a9, a10, a11, a12, a13, a14, a15) : Accs (F := F)) = accs g := by
  subst h0 h1 h2 h3 h4 h5 h6 h7 h8 h9 h10 h11 h12 h13 h14 h15
  rfl

variable (d : Dev nD) (L : grid0.Coords)

/-- A row's last chunk completes the row. -/
theorem outUpTo_row {k t : ℕ} {R : ℕ → ℕ → F .f32} : OutUpTo d L k t 16 R ⊢ OutUpTo d L k (t + 1) 0 R := by
  unfold OutUpTo
  iintro ⟨%g, %hg, Hg⟩
  iexists g
  isplitr
  · ipureintro
    intro i hi0 hi
    have h2 : (i 2).val < 256 := (i 2).isLt
    exact hg i hi0 (by omega)
  · iexact Hg

/-- A row of the block in slot 0, as the inner loop over slot 0 runs it: the accumulators, the sums of the rows before,
    become the sums with the row added, and the output slot is filled through the row. -/
theorem wp_row0 {R : ℕ → ℕ → F .f32} {f : Buf (Elt F) (iLoc d L)}
    (hR : ∀ i : S2x64x256.Idx, (i 0).val = 0 → R ((i 1).val + 1) (i 2).val = FloatOps.addf (R (i 1).val (i 2).val) (f i))
    (q6 q7 : DmaSems sig S2) (z₀ z₁ : BitVec 32) (t₁ : Fin k0_t1_loop.trips) (b0 b1 b2 b3 b4 b5 b6 b7 b8 b9 b10 b11 b12 b13 b14 b15 : FVec F S16 .f32)
    (t : Fin k0_t2_loop.trips) :
    iprop((iLoc d L ↦[slotSet 0]{fullShare} f) ∗ OutUpTo d L 0 t.val 0 R)
      ⊢ wpT d L (k0_t2_body L xV (Memref.isWhole_whole _) oV (Memref.isWhole_whole _) iV (Memref.isWhole_whole _) wV (Memref.isWhole_whole _) q6 q7
          z₀ z₁ t₁ b0 b1 b2 b3 b4 b5 b6 b7 b8 b9 b10 b11 b12 b13 b14 b15 t (accs (R t.val)))
          fun acc => iprop(⌜acc = accs (R (t.val + 1))⌝ ∗ (iLoc d L ↦[slotSet 0]{fullShare} f) ∗ OutUpTo d L 0 (t.val + 1) 0 R) := by
  simp only [k0_t2_body, accs, k0_part1_eq_skeleton, k0_part1_skel, k0_part2_eq_skeleton, k0_part2_skel, k0_part3_eq_skeleton, k0_part3_skel, k0_part4_eq_skeleton, k0_part4_skel, Prog.lift, Prog.bind_op, Prog.bind_ret, Prog.pure_eq_ret]
  iintro ⟨Hi, Hw⟩
  iapply (wp_chunk d L (j := 0) hR (k0_off5_eq t) rfl fun _ => rfl) $$ [Hi Hw]
  · isplitl [Hi] <;> iassumption
  iintro %v0 %h0 Hi Hw
  iapply (wp_chunk d L (j := 1) hR (k0_off6_eq t) rfl fun _ => rfl) $$ [Hi Hw]
  · isplitl [Hi] <;> iassumption
  iintro %v1 %h1 Hi Hw
  iapply (wp_chunk d L (j := 2) hR (k0_off7_eq t) rfl fun _ => rfl) $$ [Hi Hw]
  · isplitl [Hi] <;> iassumption
  iintro %v2 %h2 Hi Hw
  iapply (wp_chunk d L (j := 3) hR (k0_off8_eq t) rfl fun _ => rfl) $$ [Hi Hw]
  · isplitl [Hi] <;> iassumption
  iintro %v3 %h3 Hi Hw
  iapply (wp_chunk d L (j := 4) hR (k0_off9_eq t) rfl fun _ => rfl) $$ [Hi Hw]
  · isplitl [Hi] <;> iassumption
  iintro %v4 %h4 Hi Hw
  iapply (wp_chunk d L (j := 5) hR (k0_off10_eq t) rfl fun _ => rfl) $$ [Hi Hw]
  · isplitl [Hi] <;> iassumption
  iintro %v5 %h5 Hi Hw
  iapply (wp_chunk d L (j := 6) hR (k0_off11_eq t) rfl fun _ => rfl) $$ [Hi Hw]
  · isplitl [Hi] <;> iassumption
  iintro %v6 %h6 Hi Hw
  iapply (wp_chunk d L (j := 7) hR (k0_off12_eq t) rfl fun _ => rfl) $$ [Hi Hw]
  · isplitl [Hi] <;> iassumption
  iintro %v7 %h7 Hi Hw
  iapply (wp_chunk d L (j := 8) hR (k0_off13_eq t) rfl fun _ => rfl) $$ [Hi Hw]
  · isplitl [Hi] <;> iassumption
  iintro %v8 %h8 Hi Hw
  iapply (wp_chunk d L (j := 9) hR (k0_off14_eq t) rfl fun _ => rfl) $$ [Hi Hw]
  · isplitl [Hi] <;> iassumption
  iintro %v9 %h9 Hi Hw
  iapply (wp_chunk d L (j := 10) hR (k0_off15_eq t) rfl fun _ => rfl) $$ [Hi Hw]
  · isplitl [Hi] <;> iassumption
  iintro %v10 %h10 Hi Hw
  iapply (wp_chunk d L (j := 11) hR (k0_off16_eq t) rfl fun _ => rfl) $$ [Hi Hw]
  · isplitl [Hi] <;> iassumption
  iintro %v11 %h11 Hi Hw
  iapply (wp_chunk d L (j := 12) hR (k0_off17_eq t) rfl fun _ => rfl) $$ [Hi Hw]
  · isplitl [Hi] <;> iassumption
  iintro %v12 %h12 Hi Hw
  iapply (wp_chunk d L (j := 13) hR (k0_off18_eq t) rfl fun _ => rfl) $$ [Hi Hw]
  · isplitl [Hi] <;> iassumption
  iintro %v13 %h13 Hi Hw
  iapply (wp_chunk d L (j := 14) hR (k0_off19_eq t) rfl fun _ => rfl) $$ [Hi Hw]
  · isplitl [Hi] <;> iassumption
  iintro %v14 %h14 Hi Hw
  iapply (wp_chunk d L (j := 15) hR (k0_off20_eq t) rfl fun _ => rfl) $$ [Hi Hw]
  · isplitl [Hi] <;> iassumption
  iintro %v15 %h15 Hi Hw
  unfold wpT; rw [wp_ret]; imodintro
  isplitr
  · ipureintro
    exact accs_ext h0 h1 h2 h3 h4 h5 h6 h7 h8 h9 h10 h11 h12 h13 h14 h15
  isplitl [Hi]; · iexact Hi
  iapply (outUpTo_row d L) $$ Hw

/-- A row of the block in slot 1, as the inner loop over slot 1 runs it: the accumulators, the sums of the rows before,
    become the sums with the row added, and the output slot is filled through the row. -/
theorem wp_row1 {R : ℕ → ℕ → F .f32} {f : Buf (Elt F) (iLoc d L)}
    (hR : ∀ i : S2x64x256.Idx, (i 0).val = 1 → R ((i 1).val + 1) (i 2).val = FloatOps.addf (R (i 1).val (i 2).val) (f i))
    (q6 q7 : DmaSems sig S2) (t₁ : Fin k0_t1_loop.trips) (z₀ z₁ : BitVec 32) (b0 b1 b2 b3 b4 b5 b6 b7 b8 b9 b10 b11 b12 b13 b14 b15 : FVec F S16 .f32)
    (t : Fin k0_t3_loop.trips) :
    iprop((iLoc d L ↦[slotSet 1]{fullShare} f) ∗ OutUpTo d L 1 t.val 0 R)
      ⊢ wpT d L (k0_t3_body L xV (Memref.isWhole_whole _) oV (Memref.isWhole_whole _) iV (Memref.isWhole_whole _) wV (Memref.isWhole_whole _) q6 q7
          t₁ z₀ z₁ b0 b1 b2 b3 b4 b5 b6 b7 b8 b9 b10 b11 b12 b13 b14 b15 t (accs (R t.val)))
          fun acc => iprop(⌜acc = accs (R (t.val + 1))⌝ ∗ (iLoc d L ↦[slotSet 1]{fullShare} f) ∗ OutUpTo d L 1 (t.val + 1) 0 R) := by
  simp only [k0_t3_body, accs, k0_part5_eq_skeleton, k0_part5_skel, k0_part6_eq_skeleton, k0_part6_skel, k0_part7_eq_skeleton, k0_part7_skel, k0_part8_eq_skeleton, k0_part8_skel, Prog.lift, Prog.bind_op, Prog.bind_ret, Prog.pure_eq_ret]
  iintro ⟨Hi, Hw⟩
  iapply (wp_chunk d L (j := 0) hR (k0_off23_eq t) rfl fun _ => rfl) $$ [Hi Hw]
  · isplitl [Hi] <;> iassumption
  iintro %v0 %h0 Hi Hw
  iapply (wp_chunk d L (j := 1) hR (k0_off24_eq t) rfl fun _ => rfl) $$ [Hi Hw]
  · isplitl [Hi] <;> iassumption
  iintro %v1 %h1 Hi Hw
  iapply (wp_chunk d L (j := 2) hR (k0_off25_eq t) rfl fun _ => rfl) $$ [Hi Hw]
  · isplitl [Hi] <;> iassumption
  iintro %v2 %h2 Hi Hw
  iapply (wp_chunk d L (j := 3) hR (k0_off26_eq t) rfl fun _ => rfl) $$ [Hi Hw]
  · isplitl [Hi] <;> iassumption
  iintro %v3 %h3 Hi Hw
  iapply (wp_chunk d L (j := 4) hR (k0_off27_eq t) rfl fun _ => rfl) $$ [Hi Hw]
  · isplitl [Hi] <;> iassumption
  iintro %v4 %h4 Hi Hw
  iapply (wp_chunk d L (j := 5) hR (k0_off28_eq t) rfl fun _ => rfl) $$ [Hi Hw]
  · isplitl [Hi] <;> iassumption
  iintro %v5 %h5 Hi Hw
  iapply (wp_chunk d L (j := 6) hR (k0_off29_eq t) rfl fun _ => rfl) $$ [Hi Hw]
  · isplitl [Hi] <;> iassumption
  iintro %v6 %h6 Hi Hw
  iapply (wp_chunk d L (j := 7) hR (k0_off30_eq t) rfl fun _ => rfl) $$ [Hi Hw]
  · isplitl [Hi] <;> iassumption
  iintro %v7 %h7 Hi Hw
  iapply (wp_chunk d L (j := 8) hR (k0_off31_eq t) rfl fun _ => rfl) $$ [Hi Hw]
  · isplitl [Hi] <;> iassumption
  iintro %v8 %h8 Hi Hw
  iapply (wp_chunk d L (j := 9) hR (k0_off32_eq t) rfl fun _ => rfl) $$ [Hi Hw]
  · isplitl [Hi] <;> iassumption
  iintro %v9 %h9 Hi Hw
  iapply (wp_chunk d L (j := 10) hR (k0_off33_eq t) rfl fun _ => rfl) $$ [Hi Hw]
  · isplitl [Hi] <;> iassumption
  iintro %v10 %h10 Hi Hw
  iapply (wp_chunk d L (j := 11) hR (k0_off34_eq t) rfl fun _ => rfl) $$ [Hi Hw]
  · isplitl [Hi] <;> iassumption
  iintro %v11 %h11 Hi Hw
  iapply (wp_chunk d L (j := 12) hR (k0_off35_eq t) rfl fun _ => rfl) $$ [Hi Hw]
  · isplitl [Hi] <;> iassumption
  iintro %v12 %h12 Hi Hw
  iapply (wp_chunk d L (j := 13) hR (k0_off36_eq t) rfl fun _ => rfl) $$ [Hi Hw]
  · isplitl [Hi] <;> iassumption
  iintro %v13 %h13 Hi Hw
  iapply (wp_chunk d L (j := 14) hR (k0_off37_eq t) rfl fun _ => rfl) $$ [Hi Hw]
  · isplitl [Hi] <;> iassumption
  iintro %v14 %h14 Hi Hw
  iapply (wp_chunk d L (j := 15) hR (k0_off38_eq t) rfl fun _ => rfl) $$ [Hi Hw]
  · isplitl [Hi] <;> iassumption
  iintro %v15 %h15 Hi Hw
  unfold wpT; rw [wp_ret]; imodintro
  isplitr
  · ipureintro
    exact accs_ext h0 h1 h2 h3 h4 h5 h6 h7 h8 h9 h10 h11 h12 h13 h14 h15
  isplitl [Hi]; · iexact Hi
  iapply (outUpTo_row d L) $$ Hw

end Cert.KernelIdeal.Scan

end
-- ==== Proof.KernelIdeal.Steps.lean ====
/- The transfers of one block. Blocks are gathered from the input into the input ring and scattered from the output ring
   into the output, two of each in flight: here is what a tile holds of a slot, of its transfer and of its slab between
   two operations, and what each enqueue and each wait makes of it. -/
module

public import proofs.«01_k».proof.Proof.KernelIdeal.Loops

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## What a tile holds -/

/-- The input's and the output's elements of the tile's slab on rows `lo` up to `hi`, at contents `f`. -/
abbrev XB (f : Buf (Elt F) (xLoc d)) (lo hi : ℕ) : sProp 𝕄 := xLoc d ↦[slab L lo hi]{fullShare} f
abbrev OB (f : Buf (Elt F) (oLoc d)) (lo hi : ℕ) : sProp 𝕄 := oLoc d ↦[slab L lo hi]{fullShare} f

/-- Slot `k` of the input ring and of the output ring, at whatever they hold. -/
def InS (k : ℕ) : sProp 𝕄 := iprop(∃ f : Buf (Elt F) (iLoc d L), iLoc d L ↦[slotSet k]{fullShare} f)
def OutS (k : ℕ) : sProp 𝕄 := iprop(∃ g : Buf (Elt F) (wLoc d L), wLoc d L ↦[slotSet k]{fullShare} g)
/-- Slot `k` of the input ring holding block `n` of `X`, and of the output ring. -/
def InH (X : Buf (Elt F) (xLoc d)) (n k : ℕ) : sProp 𝕄 :=
  iprop(∃ f : Buf (Elt F) (iLoc d L), ⌜Holds X L n k f⌝ ∗ iLoc d L ↦[slotSet k]{fullShare} f)
def OutH (X : Buf (Elt F) (oLoc d)) (n k : ℕ) : sProp 𝕄 :=
  iprop(∃ g : Buf (Elt F) (wLoc d L), ⌜Holds X L n k g⌝ ∗ wLoc d L ↦[slotSet k]{fullShare} g)

/-- A gather's and a scatter's credit. -/
abbrev NG : ℕ := sig.dmaCredit .scVector (Kind.scVector.table .vmem) (cc0_scratch0 : Ref sig .scVector).idx S64x256 .f32
abbrev NS : ℕ := sig.dmaCredit .scVector (Kind.scVector.table .hbm) (main_v0_scv : Ref sig .scVector).idx S64x256 .f32
theorem NG_pos : 0 < NG := sig.dmaCredit_pos _ _ _ _ _ (by decide)
theorem NS_pos : 0 < NS := sig.dmaCredit_pos _ _ _ _ _ (by decide)

/-- The counter of the DMA semaphore `sm` at zero. -/
abbrev SZ (sm : DmaSem sig) : sProp 𝕄 := semVal (thr d L, SemLoc.dma sm) 0

/-- A gather of block `n` into slot `k` in flight: its wait delivers the slot holding the block, and the block back. -/
def GF (x : Buf (Elt F) (xLoc d)) (sm : DmaSem sig) (n k : ℕ) : sProp 𝕄 :=
  Transfers.Flight countersEmb (thr d L) (.dma sm) (none : HIx 1) NG iprop(InH d L x n k ∗ XB d L x (64 * n) (64 * n + 64))
/-- A scatter of block `n` out of slot `k` in flight: its wait delivers the block of the output at `X`, and the slot back. -/
def SF (X : Buf (Elt F) (oLoc d)) (sm : DmaSem sig) (n k : ℕ) : sProp 𝕄 :=
  Transfers.Flight countersEmb (thr d L) (.dma sm) (none : HIx 1) NS iprop(OB d L X (64 * n) (64 * n + 64) ∗ OutS d L k)

/-- Before block `n` is taken from slot `k`: its gather is in flight, if there is a block `n`. -/
def GR (x : Buf (Elt F) (xLoc d)) (sm : DmaSem sig) (n k : ℕ) : sProp 𝕄 :=
  if n < 128 then GF d L x sm n k else iprop(InS d L k ∗ SZ d L sm)
/-- Before block `n` is put in slot `k`: the scatter of the block two before is in flight, if there is one. -/
def SR (X : Buf (Elt F) (oLoc d)) (sm : DmaSem sig) (n k : ℕ) : sProp 𝕄 :=
  if n < 2 then iprop(OutS d L k ∗ SZ d L sm) else SF d L X sm (n - 2) k

/-- What the tile owes, the waits it has recorded beyond `W`, and the evidence that its waits are admissible. -/
def Ow (O : CellTallies nD τ sig (HIx 1)) (W : Waits sig (HIx 1)) : sProp 𝕄 :=
  iprop(Transfers.MayWaits (thr d L) (none : HIx 1) O ∗ ∃ W', ⌜∀ p ∈ W', p ∈ W ∨ p.2 = none⌝ ∗ owes (thr d L) O W')

/-- A slab's rows split at a row, and rejoin. -/
theorem xb_split (f : Buf (Elt F) (xLoc d)) {lo mid hi : ℕ} (h₁ : lo ≤ mid) (h₂ : mid ≤ hi) :
    (XB d L f lo hi : sProp 𝕄) ⊣⊢ iprop(XB d L f lo mid ∗ XB d L f mid hi) := by
  unfold XB; rw [slab_union L h₁ h₂]; exact pointsTo_union (slab_disjoint L lo mid hi)
theorem ob_split (f : Buf (Elt F) (oLoc d)) {lo mid hi : ℕ} (h₁ : lo ≤ mid) (h₂ : mid ≤ hi) :
    (OB d L f lo hi : sProp 𝕄) ⊣⊢ iprop(OB d L f lo mid ∗ OB d L f mid hi) := by
  unfold OB; rw [slab_union L h₁ h₂]; exact pointsTo_union (slab_disjoint L lo mid hi)

/-! ## A block's gather -/

section Gather

variable (x : Buf (Elt F) (xLoc d)) {sm : DmaSem sig} {n k : ℕ}
  {oB : Fin 3 → ℕ} {oS : Fin 3 → ℕ} {hS : ∀ a, oS a + S1x64x256.size a ≤ S2x64x256.size a} (hoS : oS = ![k, 0, 0])

include hoS

/-- The gather's enqueue takes the block, the slot and the counter at zero. -/
theorem gather_start {hB : ∀ a, oB a + S1x64x256.size a ≤ S4x8192x2048.size a} (hoB : oB = ![bOf L, 64 * n, cOf L])
    {p₁ : (blkM xV oB hB).view.WordExact} {p₂ : (slotM iV oS hS).view.WordExact}
    {p₃ : DmaTarget.Typed (nD := nD) (p := (thr d L).2) .hbm (.dma sm) (.here (slotM iV oS hS))}
    {α : Type} {Q : α → sProp 𝕄} {kk : PUnit → Prog (TpuEff nD τ sig (Elt F) Λ₀ (thr d L).2) α} :
    iprop(XB d L x (64 * n) (64 * n + 64) ∗ InS d L k ∗ SZ d L sm)
      ⊢ iprop((GF d L x sm n k -∗ wpT d L (kk ⟨⟩) Q)
        -∗ wpT d L (.op (.enqueueDma (blkM xV oB hB) (.here (slotM iV oS hS)) (.dma sm) p₁ p₂ p₃) kk) Q) := by
  unfold InS GF InH
  iintro ⟨Hx, ⟨%f, Hi⟩, Hs⟩ Hk
  iapply (Transfers.wp_dmaLocal countersEmb 𝒱₀ (thr d L) none (src := blkM xV oB hB) (dst := slotM iV oS hS) (sm := .dma sm)
    (q := fullShare) (fs := x) (Sd := slotSet k) (fd := f) (none : HIx 1) NG rfl NG_pos (set_slotI k oS hS hoS).subset) $$ [Hx Hi Hs]
  · isplitl [Hx]; · rw [set_blkX L n oB hB hoB]; iexact Hx
    isplitl [Hi]; · iexact Hi
    iexact Hs
  iintro Hf
  iapply Hk
  iapply (Transfers.Flight_mono countersEmb (thr d L) ?_) $$ Hf
  iintro ⟨Hi, Hx⟩
  isplitl [Hi]
  · iexists _
    isplitr
    · ipureintro; exact holds_gather (hB := hB) (hS := hS) hoB hoS x f
    · iexact Hi
  · rw [set_blkX L n oB hB hoB]; iexact Hx

/-- The gather's wait: the slot holds the block, and the block joins the rows before it. -/
theorem gather_wait {hB : ∀ a, oB a + S1x64x256.size a ≤ S4x8192x2048.size a} (hn : n < 128)
    {O : CellTallies nD τ sig (HIx 1)} {W : Waits sig (HIx 1)}
    {p₁ : (blkM xV oB hB).view.WordExact} {p₂ : (slotM iV oS hS).view.WordExact}
    {α : Type} {Q : α → sProp 𝕄} {kk : PUnit → Prog (TpuEff nD τ sig (Elt F) Λ₀ (thr d L).2) α} :
    iprop(GR d L x sm n k ∗ XB d L x 0 (64 * n) ∗ Ow d L O W)
      ⊢ iprop((InH d L x n k -∗ SZ d L sm -∗ XB d L x 0 (64 * (n + 1)) -∗ Ow d L O W -∗ wpT d L (kk ⟨⟩) Q)
        -∗ wpT d L (.op (.waitDma2 sm (blkM xV oB hB) (slotM iV oS hS) p₁ p₂) kk) Q) := by
  unfold GR Ow
  rw [if_pos hn]
  unfold GF
  iintro ⟨Hf, Hx, #Hmw, %W', %hW', HO⟩ Hk
  ihave Hm := (Transfers.MayWaits.elim (SemLoc.dma sm)) $$ Hmw
  iapply (Transfers.wp_waitLocalO countersEmb 𝒱₀ (thr d L) none (none : HIx 1) (rfl : (slotM iV oS hS).view.dmaCredit = NG)) $$ [Hf HO Hm]
  · isplitl [Hf]; · iexact Hf
    isplitl [HO]; · iexact HO
    iexact Hm
  iintro ⟨⟨Hi, Hb⟩, Hs, HO⟩
  iapply Hk $$ Hi Hs [Hx Hb] [HO]
  · iapply (xb_split d L x (mid := 64 * n) (Nat.zero_le _) (by omega)).2
    isplitl [Hx]; · iexact Hx
    rw [show 64 * (n + 1) = 64 * n + 64 by omega]; iexact Hb
  · isplitr; · iexact Hmw
    iexists (insert (SemLoc.dma sm, (none : HIx 1)) W')
    isplitr
    · ipureintro; intro p hp
      rcases Finset.mem_insert.mp hp with hp | hp
      · exact .inr (hp ▸ rfl)
      · exact hW' p hp
    · iexact HO

/-- The next gather into the slot is enqueued if there is a block for it. -/
theorem gather_next {c : BitVec 1} (hc : c = 1#1 ↔ n + 2 < 128)
    {hB : c = 1#1 → ∀ a, oB a + S1x64x256.size a ≤ S4x8192x2048.size a} (hoB : n + 2 < 128 → oB = ![bOf L, 64 * (n + 2), cOf L])
    {p₁ : ∀ h : c = 1#1, (blkM xV oB (hB h)).view.WordExact} {p₂ : c = 1#1 → (slotM iV oS hS).view.WordExact}
    {p₃ : c = 1#1 → DmaTarget.Typed (nD := nD) (p := (thr d L).2) .hbm (.dma sm) (.here (slotM iV oS hS))}
    {α : Type} {Q : α → sProp 𝕄} {kk : Prog (TpuEff nD τ sig (Elt F) Λ₀ (thr d L).2) α} :
    iprop(XB d L x (64 * (n + 2)) 8192 ∗ InS d L k ∗ SZ d L sm)
      ⊢ iprop((XB d L x (64 * (n + 3)) 8192 -∗ GR d L x sm (n + 2) k -∗ wpT d L kk Q)
        -∗ wpT d L (if h : c = 1#1 then
            .op (.enqueueDma (blkM xV oB (hB h)) (.here (slotM iV oS hS)) (.dma sm) (p₁ h) (p₂ h) (p₃ h)) (fun _ => kk) else kk) Q) := by
  by_cases h : c = 1#1
  · have hn := hc.mp h
    rw [dif_pos h]
    iintro ⟨Hx, Hi, Hs⟩ Hk
    ihave Hx' := (xb_split d L x (mid := 64 * (n + 2) + 64) (by omega) (by omega)).1 $$ Hx
    icases Hx' with ⟨Hb, Hx⟩
    iapply (gather_start d L x hoS (hB := hB h) (hoB hn)) $$ [Hb Hi Hs]
    · isplitl [Hb]; · iexact Hb
      isplitl [Hi] <;> iassumption
    iintro Hf
    iapply Hk $$ [Hx] [Hf]
    · rw [show 64 * (n + 3) = 64 * (n + 2) + 64 by omega]; iexact Hx
    · unfold GR; rw [if_pos hn]; iexact Hf
  · have hn : ¬ n + 2 < 128 := fun hn => h (hc.mpr hn)
    rw [dif_neg h]
    iintro ⟨Hx, Hi, Hs⟩ Hk
    iapply Hk $$ [Hx] [Hi Hs]
    · unfold XB; rw [slab_empty L (show 8192 ≤ 64 * (n + 3) by omega), slab_empty L (show 8192 ≤ 64 * (n + 2) by omega)]; iexact Hx
    · unfold GR; rw [if_neg hn]
      isplitl [Hi] <;> iassumption

end Gather

/-! ## A block's scatter -/

section Scatter

variable (X o₀ : Buf (Elt F) (oLoc d)) {sm : DmaSem sig} {n k : ℕ}
  {oB : Fin 3 → ℕ} {oS : Fin 3 → ℕ} {hS : ∀ a, oS a + S1x64x256.size a ≤ S2x64x256.size a}

/-- The scatter's enqueue takes the slot holding the block and the block's rows of the output. -/
theorem scatter_start (hoS : oS = ![k, 0, 0]) (hk : k < 2) (hn : n < 128)
    {hB : ∀ a, oB a + S1x64x256.size a ≤ S4x8192x2048.size a} (hoB : oB = ![bOf L, 64 * n, cOf L])
    {p₁ : (slotM wV oS hS).view.WordExact} {p₂ : (blkM oV oB hB).view.WordExact}
    {p₃ : DmaTarget.Typed (nD := nD) (p := (thr d L).2) .vmem (.dma sm) (.here (blkM oV oB hB))}
    {α : Type} {Q : α → sProp 𝕄} {kk : PUnit → Prog (TpuEff nD τ sig (Elt F) Λ₀ (thr d L).2) α} :
    iprop(OB d L o₀ (64 * n) 8192 ∗ OutH d L X n k ∗ SZ d L sm)
      ⊢ iprop((OB d L o₀ (64 * (n + 1)) 8192 -∗ SR d L X sm (n + 2) k -∗ wpT d L (kk ⟨⟩) Q)
        -∗ wpT d L (.op (.enqueueDma (slotM wV oS hS) (.here (blkM oV oB hB)) (.dma sm) p₁ p₂ p₃) kk) Q) := by
  unfold SR
  rw [if_neg (by omega), show n + 2 - 2 = n by omega]
  unfold OutH SF OutS
  iintro ⟨Ho, ⟨%g, %hg, Hw⟩, Hs⟩ Hk
  ihave Ho' := (ob_split d L o₀ (mid := 64 * n + 64) (by omega) (by omega)).1 $$ Ho
  icases Ho' with ⟨Hb, Ho⟩
  iapply (Transfers.wp_dmaLocal countersEmb 𝒱₀ (thr d L) none (src := slotM wV oS hS) (dst := blkM oV oB hB) (sm := .dma sm)
    (q := fullShare) (fs := g) (Sd := slab L (64 * n) (64 * n + 64)) (fd := o₀) (none : HIx 1) NS rfl NS_pos (set_blkO L n oB hB hoB).subset) $$ [Hb Hw Hs]
  · isplitl [Hw]; · rw [set_slotW k oS hS hoS]; iexact Hw
    isplitl [Hb]; · iexact Hb
    iexact Hs
  iintro Hf
  iapply Hk $$ [Ho] [Hf]
  · rw [show 64 * (n + 1) = 64 * n + 64 by omega]; iexact Ho
  iapply (Transfers.Flight_mono countersEmb (thr d L) ?_) $$ Hf
  iintro ⟨Hb, Hw⟩
  isplitl [Hb]
  · iapply (Entails.of_eq (pointsTo_congr (holds_scatter (hB := hB) (hS := hS) hoB hoS hk X g hg o₀))) $$ Hb
  · iexists _; rw [set_slotW k oS hS hoS]; iexact Hw

/-- A scatter's wait: the slot is free, and the block joins the rows before it. -/
theorem scatter_wait (hn : 2 ≤ n) {hB : ∀ a, oB a + S1x64x256.size a ≤ S4x8192x2048.size a}
    {O : CellTallies nD τ sig (HIx 1)} {W : Waits sig (HIx 1)}
    {p₁ : (slotM wV oS hS).view.WordExact} {p₂ : (blkM oV oB hB).view.WordExact}
    {α : Type} {Q : α → sProp 𝕄} {kk : PUnit → Prog (TpuEff nD τ sig (Elt F) Λ₀ (thr d L).2) α} :
    iprop(SR d L X sm n k ∗ OB d L X 0 (64 * (n - 2)) ∗ Ow d L O W)
      ⊢ iprop((OutS d L k -∗ SZ d L sm -∗ OB d L X 0 (64 * (n - 1)) -∗ Ow d L O W -∗ wpT d L (kk ⟨⟩) Q)
        -∗ wpT d L (.op (.waitDma2 sm (slotM wV oS hS) (blkM oV oB hB) p₁ p₂) kk) Q) := by
  unfold SR Ow
  rw [if_neg (by omega)]
  unfold SF
  iintro ⟨Hf, Ho, #Hmw, %W', %hW', HO⟩ Hk
  ihave Hm := (Transfers.MayWaits.elim (SemLoc.dma sm)) $$ Hmw
  iapply (Transfers.wp_waitLocalO countersEmb 𝒱₀ (thr d L) none (none : HIx 1) (rfl : (blkM oV oB hB).view.dmaCredit = NS)) $$ [Hf HO Hm]
  · isplitl [Hf]; · iexact Hf
    isplitl [HO]; · iexact HO
    iexact Hm
  iintro ⟨⟨Hb, Hw⟩, Hs, HO⟩
  iapply Hk $$ Hw Hs [Ho Hb] [HO]
  · iapply (ob_split d L X (mid := 64 * (n - 2)) (Nat.zero_le _) (by omega)).2
    isplitl [Ho]; · iexact Ho
    rw [show 64 * (n - 1) = 64 * (n - 2) + 64 by omega]; iexact Hb
  · isplitr; · iexact Hmw
    iexists (insert (SemLoc.dma sm, (none : HIx 1)) W')
    isplitr
    · ipureintro; intro p hp
      rcases Finset.mem_insert.mp hp with hp | hp
      · exact .inr (hp ▸ rfl)
      · exact hW' p hp
    · iexact HO

/-- The slot's last scatter is waited for if there is one. -/
theorem scatter_free {c : BitVec 1} (hc : c = 1#1 ↔ 2 ≤ n) {hB : c = 1#1 → ∀ a, oB a + S1x64x256.size a ≤ S4x8192x2048.size a}
    {O : CellTallies nD τ sig (HIx 1)} {W : Waits sig (HIx 1)}
    {p₁ : c = 1#1 → (slotM wV oS hS).view.WordExact} {p₂ : ∀ h : c = 1#1, (blkM oV oB (hB h)).view.WordExact}
    {α : Type} {Q : α → sProp 𝕄} {kk : Prog (TpuEff nD τ sig (Elt F) Λ₀ (thr d L).2) α} :
    iprop(SR d L X sm n k ∗ OB d L X 0 (64 * (n - 2)) ∗ Ow d L O W)
      ⊢ iprop((OutS d L k -∗ SZ d L sm -∗ OB d L X 0 (64 * (n - 1)) -∗ Ow d L O W -∗ wpT d L kk Q)
        -∗ wpT d L (if h : c = 1#1 then .op (.waitDma2 sm (slotM wV oS hS) (blkM oV oB (hB h)) (p₁ h) (p₂ h)) (fun _ => kk) else kk) Q) := by
  by_cases h : c = 1#1
  · rw [dif_pos h]
    exact scatter_wait d L X (hc.mp h) (hB := hB h) (kk := fun _ => kk)
  · have hn : n < 2 := Nat.lt_of_not_le fun hn => h (hc.mpr hn)
    rw [dif_neg h]
    unfold SR
    rw [if_pos hn, show n - 2 = 0 by omega, show n - 1 = 0 by omega]
    iintro ⟨⟨Hw, Hs⟩, Ho, HO⟩ Hk
    iapply Hk $$ Hw Hs Ho HO

end Scatter

end Cert.KernelIdeal.Scan

end
-- ==== Proof.KernelIdeal.Trip.lean ====
/- A trip of the kernel's outer loop takes two blocks, one through each slot. A block: its gather is waited for, the slot's
   last scatter is waited for, the rows are added up from the input slot into the output slot, the block's scatter is
   enqueued and, if there is one, the next gather into the slot. -/
module

public import proofs.«01_k».proof.Proof.KernelIdeal.Steps

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## A block's rows -/

/-- Before row `t` of block `n` in slot `k`: the accumulators are the sums of the rows before, and the output slot holds
    the running sums of the block's rows before. -/
def blockInv (x : Buf (Elt F) (xLoc d)) (n k : ℕ) (f : Buf (Elt F) (iLoc d L)) (t : ℕ) (acc : Accs (F := F)) : sProp 𝕄 :=
  iprop(⌜acc = accs (run x L n t)⌝ ∗ (iLoc d L ↦[slotSet k]{fullShare} f) ∗ OutUpTo d L k t 0 (run x L n))

/-- After the block's last row the output slot holds the block of running sums. -/
theorem block_end (x : Buf (Elt F) (xLoc d)) {n k trips : ℕ} (ht : trips = 64) {f : Buf (Elt F) (iLoc d L)} (_hf : Holds x L n k f) {acc : Accs (F := F)} :
    blockInv d L x n k f trips acc ⊢ iprop(⌜acc = accs (run x L (n + 1) 0)⌝ ∗ InS d L k ∗ OutH d L (G x) n k) := by
  unfold blockInv OutUpTo InS OutH
  subst ht
  iintro ⟨%ha, Hi, %g, %hg, Hw⟩
  isplitr; · ipureintro; rw [ha, run_next]
  isplitl [Hi]; · iexists f; iexact Hi
  iexists g
  isplitr
  · ipureintro
    exact holds_run fun i h0 => hg i h0 (.inl (show (i 1).val < 64 from (i 1).isLt))
  · iexact Hw

/-- The rows of block `n` in slot 0, as the loop over them runs: the accumulators go from the sums of the rows before the
    block to those of the rows through it, and the output slot is filled with the block of running sums. -/
theorem wp_block0 (x : Buf (Elt F) (xLoc d)) {n : ℕ} (hn : n < 128) (q6 q7 : DmaSems sig S2) (z₀ z₁ : BitVec 32) (t₁ : Fin k0_t1_loop.trips) (b0 b1 b2 b3 b4 b5 b6 b7 b8 b9 b10 b11 b12 b13 b14 b15 : FVec F S16 .f32)
    {α : Type} {Q : α → sProp 𝕄} {kk : Accs (F := F) → Prog (TpuEff nD τ sig (Elt F) Λ₀ (thr d L).2) α} :
    iprop(InH d L x n 0 ∗ OutS d L 0)
      ⊢ iprop((InS d L 0 -∗ OutH d L (G x) n 0 -∗ wpT d L (kk (accs (run x L (n + 1) 0))) Q)
        -∗ wpT d L (Scf.Loop.for k0_t2_loop k0_t2_ok (accs (run x L n 0)) (k0_t2_body L xV (Memref.isWhole_whole _) oV (Memref.isWhole_whole _) iV (Memref.isWhole_whole _) wV (Memref.isWhole_whole _) q6 q7 z₀ z₁ t₁ b0 b1 b2 b3 b4 b5 b6 b7 b8 b9 b10 b11 b12 b13 b14 b15) >>= kk) Q) := by
  unfold InH OutS
  iintro ⟨⟨%f, %hf, Hi⟩, %g, Hw⟩ Hk
  iapply (Scf.wp_for_bind frame (wpE (defs₀ (F := F)) 𝒱₀ (thr d L) none) Set.univ _ _ _ k0_t2_ok (accs (run x L n 0)) _
    (blockInv d L x n 0 f) fun t acc => ?_) $$ [Hi Hw]
  · unfold blockInv
    iintro ⟨%ha, Hi, Hw⟩
    subst ha
    iapply (wp_row0 d L (run_step hn hf) q6 q7 z₀ z₁ t₁ b0 b1 b2 b3 b4 b5 b6 b7 b8 b9 b10 b11 b12 b13 b14 b15 t) $$ [Hi Hw]
    isplitl [Hi] <;> iassumption
  · unfold blockInv OutUpTo
    isplitr; · ipureintro; rfl
    isplitl [Hi]; · iexact Hi
    iexists g
    isplitr; · ipureintro; exact fun i _ h => by omega
    iexact Hw
  iintro %acc HI
  ihave HI' := (block_end d L x (trips := Scf.trips _ _ _) (by decide) hf) $$ HI
  icases HI' with ⟨%ha, Hi, Hw⟩
  subst ha
  iapply Hk $$ Hi Hw

/-- The rows of block `n` in slot 1. -/
theorem wp_block1 (x : Buf (Elt F) (xLoc d)) {n : ℕ} (hn : n < 128) (q6 q7 : DmaSems sig S2) (t₁ : Fin k0_t1_loop.trips) (z₀ z₁ : BitVec 32) (b0 b1 b2 b3 b4 b5 b6 b7 b8 b9 b10 b11 b12 b13 b14 b15 : FVec F S16 .f32)
    {α : Type} {Q : α → sProp 𝕄} {kk : Accs (F := F) → Prog (TpuEff nD τ sig (Elt F) Λ₀ (thr d L).2) α} :
    iprop(InH d L x n 1 ∗ OutS d L 1)
      ⊢ iprop((InS d L 1 -∗ OutH d L (G x) n 1 -∗ wpT d L (kk (accs (run x L (n + 1) 0))) Q)
        -∗ wpT d L (Scf.Loop.for k0_t3_loop k0_t3_ok (accs (run x L n 0)) (k0_t3_body L xV (Memref.isWhole_whole _) oV (Memref.isWhole_whole _) iV (Memref.isWhole_whole _) wV (Memref.isWhole_whole _) q6 q7 t₁ z₀ z₁ b0 b1 b2 b3 b4 b5 b6 b7 b8 b9 b10 b11 b12 b13 b14 b15) >>= kk) Q) := by
  unfold InH OutS
  iintro ⟨⟨%f, %hf, Hi⟩, %g, Hw⟩ Hk
  iapply (Scf.wp_for_bind frame (wpE (defs₀ (F := F)) 𝒱₀ (thr d L) none) Set.univ _ _ _ k0_t3_ok (accs (run x L n 0)) _
    (blockInv d L x n 1 f) fun t acc => ?_) $$ [Hi Hw]
  · unfold blockInv
    iintro ⟨%ha, Hi, Hw⟩
    subst ha
    iapply (wp_row1 d L (run_step hn hf) q6 q7 t₁ z₀ z₁ b0 b1 b2 b3 b4 b5 b6 b7 b8 b9 b10 b11 b12 b13 b14 b15 t) $$ [Hi Hw]
    isplitl [Hi] <;> iassumption
  · unfold blockInv OutUpTo
    isplitr; · ipureintro; rfl
    isplitl [Hi]; · iexact Hi
    iexists g
    isplitr; · ipureintro; exact fun i _ h => by omega
    iexact Hw
  iintro %acc HI
  ihave HI' := (block_end d L x (trips := Scf.trips _ _ _) (by decide) hf) $$ HI
  icases HI' with ⟨%ha, Hi, Hw⟩
  subst ha
  iapply Hk $$ Hi Hw

/-! ## A trip -/

/-- The two semaphores of a pair. -/
abbrev sem0 (q : DmaSems sig S2) : DmaSem sig := ((q.slice (Rect.unit (s := S2) ![0] S1.size inb_S2_S1_0)).squeeze S_ squeezes_S1_S_).sem
abbrev sem1 (q : DmaSems sig S2) : DmaSem sig := ((q.slice (Rect.unit (s := S2) ![1] S1.size inb_S2_S1_1)).squeeze S_ squeezes_S1_S_).sem

/-- Before block `n`, beside its own slots: the input's blocks before it are back, the output's blocks before the two
    last are at their running sums, its blocks from `n` on are untouched. -/
def St (x : Buf (Elt F) (xLoc d)) (o₀ : Buf (Elt F) (oLoc d)) (O : CellTallies nD τ sig (HIx 1)) (W : Waits sig (HIx 1)) (n : ℕ) : sProp 𝕄 :=
  iprop(XB d L x 0 (64 * n) ∗ OB d L (G x) 0 (64 * (n - 2)) ∗ OB d L o₀ (64 * n) 8192 ∗ Ow d L O W)

variable (x : Buf (Elt F) (xLoc d)) (o₀ : Buf (Elt F) (oLoc d)) (O : CellTallies nD τ sig (HIx 1)) (W : Waits sig (HIx 1)) (q6 q7 : DmaSems sig S2)

/-- The trip's first half: block `2 t` through slot 0. -/
theorem wp_half0 (z₀ z₁ : BitVec 32) (t : Fin k0_t1_loop.trips) :
    iprop(St d L x o₀ O W (2 * t.val) ∗ GR d L x (sem0 q6) (2 * t.val) 0 ∗ SR d L (G x) (sem0 q7) (2 * t.val) 0)
      ⊢ wpT d L (k0_part9 L xV (Memref.isWhole_whole _) oV (Memref.isWhole_whole _) iV (Memref.isWhole_whole _) wV (Memref.isWhole_whole _) q6 q7 z₀ z₁ t (chunk (run x L (2 * t.val) 0) 0) (chunk (run x L (2 * t.val) 0) 1) (chunk (run x L (2 * t.val) 0) 2) (chunk (run x L (2 * t.val) 0) 3) (chunk (run x L (2 * t.val) 0) 4) (chunk (run x L (2 * t.val) 0) 5) (chunk (run x L (2 * t.val) 0) 6) (chunk (run x L (2 * t.val) 0) 7) (chunk (run x L (2 * t.val) 0) 8) (chunk (run x L (2 * t.val) 0) 9) (chunk (run x L (2 * t.val) 0) 10) (chunk (run x L (2 * t.val) 0) 11) (chunk (run x L (2 * t.val) 0) 12) (chunk (run x L (2 * t.val) 0) 13) (chunk (run x L (2 * t.val) 0) 14) (chunk (run x L (2 * t.val) 0) 15))
          fun r => iprop(∃ z z' : BitVec 32, ⌜r = ⟨z, z', chunk (run x L (2 * t.val + 1) 0) 0, chunk (run x L (2 * t.val + 1) 0) 1, chunk (run x L (2 * t.val + 1) 0) 2, chunk (run x L (2 * t.val + 1) 0) 3, chunk (run x L (2 * t.val + 1) 0) 4, chunk (run x L (2 * t.val + 1) 0) 5, chunk (run x L (2 * t.val + 1) 0) 6, chunk (run x L (2 * t.val + 1) 0) 7, chunk (run x L (2 * t.val + 1) 0) 8, chunk (run x L (2 * t.val + 1) 0) 9, chunk (run x L (2 * t.val + 1) 0) 10, chunk (run x L (2 * t.val + 1) 0) 11, chunk (run x L (2 * t.val + 1) 0) 12, chunk (run x L (2 * t.val + 1) 0) 13, chunk (run x L (2 * t.val + 1) 0) 14, chunk (run x L (2 * t.val + 1) 0) 15⟩⌝
            ∗ St d L x o₀ O W (2 * t.val + 1) ∗ (InS d L 0 ∗ SZ d L (sem0 q6)) ∗ SR d L (G x) (sem0 q7) (2 * t.val + 2) 0) := by
  have ht := trips_outer t
  simp only [k0_part9_eq_skeleton, k0_part9_skel, Prog.lift, Prog.bind_op, Prog.bind_ret, Prog.pure_eq_ret]
  unfold St
  iintro ⟨⟨Hx, HoG, Ho, HO⟩, HG, HS⟩
  iapply (gather_wait d L x rfl (n := 2 * t.val) (by omega)) $$ [HG Hx HO]
  · isplitl [HG]; · iexact HG
    isplitl [Hx] <;> iassumption
  iintro Hi Hz Hx HO
  iapply (scatter_free d L (G x) (n := 2 * t.val) ((cond1_iff t).trans (by omega))) $$ [HS HoG HO]
  · isplitl [HS]; · iexact HS
    isplitl [HoG] <;> iassumption
  iintro Hw Hz' HoG HO
  iapply (wp_block0 d L x (n := 2 * t.val) (by omega)) $$ [Hi Hw]
  · isplitl [Hi] <;> iassumption
  iintro Hi Hw
  iapply (scatter_start d L (G x) o₀ rfl (by omega) (n := 2 * t.val) (by omega) (off3_eq0 L t)) $$ [Ho Hw Hz']
  · isplitl [Ho]; · iexact Ho
    isplitl [Hw] <;> iassumption
  iintro Ho HS
  unfold wpT; rw [wp_ret]; imodintro
  iexists _; iexists _
  isplitr; · ipureintro; rfl
  isplitl [Hx HoG Ho HO]
  · isplitl [Hx]; · iexact Hx
    isplitl [HoG]; · iexact HoG
    isplitl [Ho] <;> iassumption
  isplitl [Hi Hz]
  · isplitl [Hi] <;> iassumption
  iexact HS

/-- The trip's second half: the next gather into slot 0, and block `2 t + 1` through slot 1. -/
theorem wp_half1 (z₀ z₁ : BitVec 32) (t : Fin k0_t1_loop.trips) :
    iprop(St d L x o₀ O W (2 * t.val + 1) ∗ XB d L x (64 * (2 * t.val + 2)) 8192 ∗ (InS d L 0 ∗ SZ d L (sem0 q6))
        ∗ GR d L x (sem1 q6) (2 * t.val + 1) 1 ∗ SR d L (G x) (sem1 q7) (2 * t.val + 1) 1)
      ⊢ wpT d L (k0_part10 L xV (Memref.isWhole_whole _) oV (Memref.isWhole_whole _) iV (Memref.isWhole_whole _) wV (Memref.isWhole_whole _) q6 q7 t z₀ z₁ (chunk (run x L (2 * t.val + 1) 0) 0) (chunk (run x L (2 * t.val + 1) 0) 1) (chunk (run x L (2 * t.val + 1) 0) 2) (chunk (run x L (2 * t.val + 1) 0) 3) (chunk (run x L (2 * t.val + 1) 0) 4) (chunk (run x L (2 * t.val + 1) 0) 5) (chunk (run x L (2 * t.val + 1) 0) 6) (chunk (run x L (2 * t.val + 1) 0) 7) (chunk (run x L (2 * t.val + 1) 0) 8) (chunk (run x L (2 * t.val + 1) 0) 9) (chunk (run x L (2 * t.val + 1) 0) 10) (chunk (run x L (2 * t.val + 1) 0) 11) (chunk (run x L (2 * t.val + 1) 0) 12) (chunk (run x L (2 * t.val + 1) 0) 13) (chunk (run x L (2 * t.val + 1) 0) 14) (chunk (run x L (2 * t.val + 1) 0) 15))
          fun r => iprop(∃ z : BitVec 32, ⌜r = ⟨z, chunk (run x L (2 * t.val + 2) 0) 0, chunk (run x L (2 * t.val + 2) 0) 1, chunk (run x L (2 * t.val + 2) 0) 2, chunk (run x L (2 * t.val + 2) 0) 3, chunk (run x L (2 * t.val + 2) 0) 4, chunk (run x L (2 * t.val + 2) 0) 5, chunk (run x L (2 * t.val + 2) 0) 6, chunk (run x L (2 * t.val + 2) 0) 7, chunk (run x L (2 * t.val + 2) 0) 8, chunk (run x L (2 * t.val + 2) 0) 9, chunk (run x L (2 * t.val + 2) 0) 10, chunk (run x L (2 * t.val + 2) 0) 11, chunk (run x L (2 * t.val + 2) 0) 12, chunk (run x L (2 * t.val + 2) 0) 13, chunk (run x L (2 * t.val + 2) 0) 14, chunk (run x L (2 * t.val + 2) 0) 15⟩⌝
            ∗ St d L x o₀ O W (2 * t.val + 2) ∗ XB d L x (64 * (2 * t.val + 3)) 8192 ∗ GR d L x (sem0 q6) (2 * t.val + 2) 0
            ∗ (InS d L 1 ∗ SZ d L (sem1 q6)) ∗ SR d L (G x) (sem1 q7) (2 * t.val + 3) 1) := by
  have ht := trips_outer t
  simp only [k0_part10_eq_skeleton, k0_part10_skel, Prog.lift, Prog.bind_op, Prog.bind_ret, Prog.pure_eq_ret]
  unfold St
  iintro ⟨⟨Hx, HoG, Ho, HO⟩, Hr, ⟨Hi0, Hz0⟩, HG, HS⟩
  iapply (gather_next d L x rfl (n := 2 * t.val) ((cond2_iff t).trans (by omega)) fun _ => off21_eq L t (by omega)) $$ [Hr Hi0 Hz0]
  · isplitl [Hr]; · iexact Hr
    isplitl [Hi0] <;> iassumption
  iintro Hr HG0
  iapply (gather_wait d L x rfl (n := 2 * t.val + 1) (by omega)) $$ [HG Hx HO]
  · isplitl [HG]; · iexact HG
    isplitl [Hx] <;> iassumption
  iintro Hi Hz Hx HO
  iapply (scatter_free d L (G x) (n := 2 * t.val + 1) ((cond3_iff t).trans (by omega))) $$ [HS HoG HO]
  · isplitl [HS]; · iexact HS
    isplitl [HoG] <;> iassumption
  iintro Hw Hz' HoG HO
  iapply (wp_block1 d L x (n := 2 * t.val + 1) (by omega)) $$ [Hi Hw]
  · isplitl [Hi] <;> iassumption
  iintro Hi Hw
  iapply (scatter_start d L (G x) o₀ rfl (by omega) (n := 2 * t.val + 1) (by omega) (off3_eq1 L t)) $$ [Ho Hw Hz']
  · isplitl [Ho]; · iexact Ho
    isplitl [Hw] <;> iassumption
  iintro Ho HS
  unfold wpT; rw [wp_ret]; imodintro
  iexists _
  isplitr; · ipureintro; rfl
  isplitl [Hx HoG Ho HO]
  · isplitl [Hx]; · iexact Hx
    isplitl [HoG]; · iexact HoG
    isplitl [Ho] <;> iassumption
  isplitl [Hr]; · iexact Hr
  isplitl [HG0]; · iexact HG0
  isplitl [Hi Hz]
  · isplitl [Hi] <;> iassumption
  iexact HS

/-- Before trip `t`: the accumulators are the sums of the rows before block `2 t`, and both slots wait for their blocks. -/
def tripInv (t : ℕ) (acc : Accs (F := F)) : sProp 𝕄 :=
  iprop(⌜acc = accs (run x L (2 * t) 0)⌝ ∗ St d L x o₀ O W (2 * t) ∗ XB d L x (64 * (2 * t + 2)) 8192
    ∗ (GR d L x (sem0 q6) (2 * t) 0 ∗ SR d L (G x) (sem0 q7) (2 * t) 0)
    ∗ GR d L x (sem1 q6) (2 * t + 1) 1 ∗ SR d L (G x) (sem1 q7) (2 * t + 1) 1)

/-- A trip goes from its two blocks to the next two. -/
theorem wp_trip (z : BitVec 32) (t : Fin k0_t1_loop.trips) (acc : Accs (F := F)) :
    tripInv d L x o₀ O W q6 q7 t.val acc
      ⊢ wpT d L (k0_t1_body L xV (Memref.isWhole_whole _) oV (Memref.isWhole_whole _) iV (Memref.isWhole_whole _) wV (Memref.isWhole_whole _) q6 q7 z t acc) (tripInv d L x o₀ O W q6 q7 (t.val + 1)) := by
  have ht := trips_outer t
  unfold tripInv
  iintro ⟨%ha, HSt, Hr, ⟨HG0, HS0⟩, HG1, HS1⟩
  subst ha
  simp only [k0_t1_body, accs]
  unfold wpT
  rw [wp_bind]
  iapply (wp_wand _ _ _) $$ [HSt HG0 HS0]
  · iapply (wp_half0 d L x o₀ O W q6 q7 _ _ t)
    isplitl [HSt]; · iexact HSt
    isplitl [HG0] <;> iassumption
  iintro %r ⟨%z, %z', %hr, HSt, Hi0, HS0⟩
  subst hr
  rw [wp_bind]
  iapply (wp_wand _ _ _) $$ [HSt Hr Hi0 HG1 HS1]
  · iapply (wp_half1 d L x o₀ O W q6 q7 _ _ t)
    isplitl [HSt]; · iexact HSt
    isplitl [Hr]; · iexact Hr
    isplitl [Hi0]; · iexact Hi0
    isplitl [HG1] <;> iassumption
  iintro %r ⟨%z'', %hr, HSt, Hr, HG0, ⟨Hi1, Hz1⟩, HS1⟩
  subst hr
  simp only [Prog.lift, Prog.bind_op, Prog.bind_ret, Prog.pure_eq_ret]
  iapply (gather_next d L x rfl (n := 2 * t.val + 1) ((cond4_iff t).trans (by omega)) fun _ => off39_eq L t (by omega)) $$ [Hr Hi1 Hz1]
  · isplitl [Hr]; · iexact Hr
    isplitl [Hi1] <;> iassumption
  iintro Hr HG1
  unfold wpT; rw [wp_ret]; imodintro
  rw [show 2 * (t.val + 1) = 2 * t.val + 2 by omega]
  isplitr; · ipureintro; rfl
  isplitl [HSt]; · iexact HSt
  isplitl [Hr]; · iexact Hr
  isplitl [HG0 HS0]
  · isplitl [HG0] <;> iassumption
  isplitl [HG1] <;> iassumption

end Cert.KernelIdeal.Scan

end
-- ==== Proof.KernelIdeal.Body.lean ====
/- The kernel's body on one tile: the first two gathers, the outer loop, the last two scatters' waits. From the tile's
   slab of the input and of the output, whatever the output holds, it leaves the slab of running sums. -/
module

public import proofs.«01_k».proof.Proof.KernelIdeal.Trip

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- No rows of a slab are held for nothing. -/
theorem xb_empty (f : Buf (Elt F) (xLoc d)) {lo hi : ℕ} (h : hi ≤ lo) : (XB d L f lo hi : sProp 𝕄) = iprop(emp) := by
  unfold XB; rw [slab_empty L h]; exact pointsTo_empty
theorem ob_empty (f : Buf (Elt F) (oLoc d)) {lo hi : ℕ} (h : hi ≤ lo) : (OB d L f lo hi : sProp 𝕄) = iprop(emp) := by
  unfold OB; rw [slab_empty L h]; exact pointsTo_empty

/-- The loop's initial accumulators, all zero, are the sums of no rows. -/
theorem accs_zero (x : Buf (Elt F) (xLoc d)) :
    ((k0_pay65 (F := F), k0_pay66 (F := F), k0_pay67 (F := F), k0_pay68 (F := F), k0_pay69 (F := F), k0_pay70 (F := F), k0_pay71 (F := F), k0_pay72 (F := F), k0_pay73 (F := F), k0_pay74 (F := F), k0_pay75 (F := F), k0_pay76 (F := F), k0_pay77 (F := F), k0_pay78 (F := F), k0_pay79 (F := F), k0_pay80 (F := F)) : Accs (F := F))
      = accs (run x L 0 0) :=
  accs_ext rfl rfl rfl rfl rfl rfl rfl rfl rfl rfl rfl rfl rfl rfl rfl rfl

/-- The four DMA semaphores of a tile's gathers and scatters, at zero. -/
def Sems0 (q6 q7 : DmaSems sig S2) : sProp 𝕄 := iprop(SZ d L (sem0 q6) ∗ SZ d L (sem1 q6) ∗ SZ d L (sem0 q7) ∗ SZ d L (sem1 q7))
/-- The two slots of each ring, at whatever they hold. -/
def Rings : sProp 𝕄 := iprop(InS d L 0 ∗ InS d L 1 ∗ OutS d L 0 ∗ OutS d L 1)

variable (x : Buf (Elt F) (xLoc d)) (o₀ : Buf (Elt F) (oLoc d)) (O : CellTallies nD τ sig (HIx 1)) (W : Waits sig (HIx 1)) (q6 q7 : DmaSems sig S2)

/-- What a tile starts from: its slab of both arrays, its rings, its semaphores at zero. The loop starts at the sums of
    no rows, with the first two gathers in flight. -/
theorem trips_start :
    iprop(XB d L x 0 (64 * 0) ∗ XB d L x (64 * 2) 8192 ∗ OB d L o₀ 0 8192 ∗ (OutS d L 0 ∗ OutS d L 1) ∗ (SZ d L (sem0 q7) ∗ SZ d L (sem1 q7))
        ∗ GF d L x (sem0 q6) 0 0 ∗ GF d L x (sem1 q6) 1 1 ∗ Ow d L O W)
      ⊢ tripInv d L x o₀ O W q6 q7 0 (accs (run x L 0 0)) := by
  unfold tripInv St GR SR
  rw [ob_empty d L (G x) (show 64 * (2 * 0 - 2) ≤ 0 by omega), if_pos (show 2 * 0 < 128 by omega), if_pos (show 2 * 0 + 1 < 128 by omega),
    if_pos (show 2 * 0 < 2 by omega), if_pos (show 2 * 0 + 1 < 2 by omega)]
  iintro ⟨Hx, Hr, Ho, ⟨Hw0, Hw1⟩, ⟨Hz0, Hz1⟩, HG0, HG1, HO⟩
  isplitr; · ipureintro; rfl
  isplitl [Hx Ho HO]
  · isplitl [Hx]; · iexact Hx
    isplitr; · iempintro
    isplitl [Ho] <;> iassumption
  isplitl [Hr]; · iexact Hr
  isplitl [HG0 Hw0 Hz0]
  · isplitl [HG0]; · iexact HG0
    isplitl [Hw0] <;> iassumption
  isplitl [HG1]; · iexact HG1
  isplitl [Hw1] <;> iassumption

/-- What the loop ends at: the input back, the input ring free, the last two scatters in flight. -/
theorem trips_end {trips : ℕ} (ht : trips = 64) (acc : Accs (F := F)) :
    tripInv d L x o₀ O W q6 q7 trips acc
      ⊢ iprop(XB d L x 0 8192 ∗ OB d L (G x) 0 (64 * (128 - 2)) ∗ Ow d L O W ∗ (InS d L 0 ∗ InS d L 1) ∗ (SZ d L (sem0 q6) ∗ SZ d L (sem1 q6))
          ∗ SR d L (G x) (sem0 q7) 128 0 ∗ SR d L (G x) (sem1 q7) 129 1) := by
  subst ht
  unfold tripInv St GR
  rw [if_neg (show ¬ 2 * 64 < 128 by omega), if_neg (show ¬ 2 * 64 + 1 < 128 by omega), xb_empty d L x (show 8192 ≤ 64 * (2 * 64 + 2) by omega),
    ob_empty d L o₀ (show 8192 ≤ 64 * (2 * 64) by omega)]
  iintro ⟨-, ⟨Hx, Ho, -, HO⟩, -, ⟨⟨Hi0, Hz0⟩, HS0⟩, ⟨Hi1, Hz1⟩, HS1⟩
  isplitl [Hx]; · iexact Hx
  isplitl [Ho]; · iexact Ho
  isplitl [HO]; · iexact HO
  isplitl [Hi0 Hi1]
  · isplitl [Hi0] <;> iassumption
  isplitl [Hz0 Hz1]
  · isplitl [Hz0] <;> iassumption
  isplitl [HS0] <;> iassumption

/-- The body of the kernel on a tile leaves the tile's slab of the output at the running sums of the input's columns, the
    input as it was, the rings free and the semaphores at zero. -/
theorem wp_body :
    iprop(XB d L x 0 8192 ∗ OB d L o₀ 0 8192 ∗ Rings d L ∗ Sems0 d L q6 q7 ∗ Ow d L O W)
      ⊢ wpT d L (cc0__cumsum_body L xV (Memref.isWhole_whole _) oV (Memref.isWhole_whole _) iV (Memref.isWhole_whole _) wV (Memref.isWhole_whole _) q6 q7)
          fun _ => iprop(XB d L x 0 8192 ∗ OB d L (G x) 0 8192 ∗ Rings d L ∗ Sems0 d L q6 q7 ∗ Ow d L O W) := by
  simp only [cc0__cumsum_body_eq_skeleton, cc0__cumsum_body_skel, k0_part11_eq_skeleton, k0_part11_skel, k0_part12_eq_skeleton, k0_part12_skel,
    Prog.lift, Prog.bind_op, Prog.bind_ret, Prog.pure_eq_ret]
  unfold Rings Sems0
  iintro ⟨Hx, Ho, ⟨Hi0, Hi1, Hw0, Hw1⟩, ⟨Hz0, Hz1, Hy0, Hy1⟩, HO⟩
  ihave Hx' := (xb_split d L x (mid := 64 * 0) (Nat.zero_le _) (by omega)).1 $$ Hx
  icases Hx' with ⟨Hx, Hr⟩
  ihave Hr' := (xb_split d L x (mid := 64 * 0 + 64) (by omega) (by omega)).1 $$ Hr
  icases Hr' with ⟨Hb0, Hr⟩
  ihave Hr' := (xb_split d L x (lo := 64 * 1) (mid := 64 * 1 + 64) (by omega) (by omega)).1 $$ Hr
  icases Hr' with ⟨Hb1, Hr⟩
  iapply (gather_start d L x (n := 0) rfl (off1_eq L)) $$ [Hb0 Hi0 Hz0]
  · isplitl [Hb0]; · iexact Hb0
    isplitl [Hi0] <;> iassumption
  iintro HG0
  iapply (gather_start d L x (n := 1) rfl (off2_eq L)) $$ [Hb1 Hi1 Hz1]
  · isplitl [Hb1]; · iexact Hb1
    isplitl [Hi1] <;> iassumption
  iintro HG1
  rw [accs_zero d L x]
  iapply (Scf.wp_for_bind frame (wpE (defs₀ (F := F)) 𝒱₀ (thr d L) none) Set.univ _ _ _ k0_t1_ok (accs (run x L 0 0)) _
    (tripInv d L x o₀ O W q6 q7) fun t acc => wp_trip d L x o₀ O W q6 q7 _ t acc) $$ [Hx Hr Ho Hw0 Hw1 Hy0 Hy1 HG0 HG1 HO]
  · iapply (trips_start d L x o₀ O W q6 q7)
    isplitl [Hx]; · iexact Hx
    isplitl [Hr]; · iexact Hr
    isplitl [Ho]; · iexact Ho
    isplitl [Hw0 Hw1]
    · isplitl [Hw0] <;> iassumption
    isplitl [Hy0 Hy1]
    · isplitl [Hy0] <;> iassumption
    isplitl [HG0]; · iexact HG0
    isplitl [HG1] <;> iassumption
  iintro %acc HI
  ihave HI' := (trips_end d L x o₀ O W q6 q7 (by decide) acc) $$ HI
  icases HI' with ⟨Hx, Ho, HO, ⟨Hi0, Hi1⟩, ⟨Hz0, Hz1⟩, HS0, HS1⟩
  iapply (scatter_wait d L (G x) (n := 128) (by omega)) $$ [HS0 Ho HO]
  · isplitl [HS0]; · iexact HS0
    isplitl [Ho] <;> iassumption
  iintro Hw0 Hy0 Ho HO
  iapply (scatter_wait d L (G x) (n := 129) (by omega)) $$ [HS1 Ho HO]
  · isplitl [HS1]; · iexact HS1
    isplitl [Ho] <;> iassumption
  iintro Hw1 Hy1 Ho HO
  unfold wpT; rw [wp_ret]; imodintro
  isplitl [Hx]; · iexact Hx
  isplitl [Ho]; · iexact Ho
  isplitl [Hi0 Hi1 Hw0 Hw1]
  · isplitl [Hi0]; · iexact Hi0
    isplitl [Hi1]; · iexact Hi1
    isplitl [Hw0] <;> iassumption
  isplitl [Hz0 Hz1 Hy0 Hy1]
  · isplitl [Hz0]; · iexact Hz0
    isplitl [Hz1]; · iexact Hz1
    isplitl [Hy0] <;> iassumption
  iexact HO

end Cert.KernelIdeal.Scan

end
-- ==== Proof.KernelIdeal.Tile.lean ====
/- One tile's task, from what the launch hands a vector subcore: its scratch buffers, whose two rings it names slot by slot,
   and its scoped semaphores, four of which are the gathers' and the scatters'. -/
module

public import proofs.«01_k».proof.Proof.KernelIdeal.Body

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The subcore's own buffers and semaphores -/

/-- A ring whole is its two slots, whatever each holds. -/
theorem ring_in : (iprop(∃ f : Buf (Elt F) (iLoc d L), iLoc d L ↦{fullShare} f) : sProp 𝕄) ⊢ iprop(InS d L 0 ∗ InS d L 1) := by
  unfold InS
  iintro ⟨%f, H⟩
  ihave H' := (show (iLoc d L ↦{fullShare} f : sProp 𝕄) ⊢ iprop((iLoc d L ↦[slotSet 0]{fullShare} f) ∗ iLoc d L ↦[slotSet 1]{fullShare} f) from
    (Entails.of_eq (by rw [slot_union])).trans (pointsTo_union slot_disjoint).1) $$ H
  icases H' with ⟨H0, H1⟩
  isplitl [H0]
  · iexists f; iexact H0
  · iexists f; iexact H1
theorem ring_out : (iprop(∃ g : Buf (Elt F) (wLoc d L), wLoc d L ↦{fullShare} g) : sProp 𝕄) ⊢ iprop(OutS d L 0 ∗ OutS d L 1) := by
  unfold OutS
  iintro ⟨%f, H⟩
  ihave H' := (show (wLoc d L ↦{fullShare} f : sProp 𝕄) ⊢ iprop((wLoc d L ↦[slotSet 0]{fullShare} f) ∗ wLoc d L ↦[slotSet 1]{fullShare} f) from
    (Entails.of_eq (by rw [slot_union])).trans (pointsTo_union slot_disjoint).1) $$ H
  icases H' with ⟨H0, H1⟩
  isplitl [H0]
  · iexists f; iexact H0
  · iexists f; iexact H1
/-- The two slots rejoin. -/
theorem slots_in : iprop(InS d L 0 ∗ InS d L 1) ⊢ (iprop(∃ f : Buf (Elt F) (iLoc d L), iLoc d L ↦{fullShare} f) : sProp 𝕄) := by
  unfold InS
  iintro ⟨⟨%f, H0⟩, %g, H1⟩
  ihave H := (pointsTo_join (ℓ := iLoc d L) (q := fullShare) (f := f) (g := g) slot_disjoint) $$ [H0 H1]
  · isplitl [H0] <;> iassumption
  rw [← slot_union]
  iexists _; iexact H
theorem slots_out : iprop(OutS d L 0 ∗ OutS d L 1) ⊢ (iprop(∃ g : Buf (Elt F) (wLoc d L), wLoc d L ↦{fullShare} g) : sProp 𝕄) := by
  unfold OutS
  iintro ⟨⟨%f, H0⟩, %g, H1⟩
  ihave H := (pointsTo_join (ℓ := wLoc d L) (q := fullShare) (f := f) (g := g) slot_disjoint) $$ [H0 H1]
  · isplitl [H0] <;> iassumption
  rw [← slot_union]
  iexists _; iexact H

/-- The cells of the four semaphores. -/
abbrev cell (sm : DmaSem sig) : GSem nD τ sig := (thr d L, SemLoc.dma sm)
abbrev g0 : DmaSem sig := sem0 cc0_scratch2
abbrev g1 : DmaSem sig := sem1 cc0_scratch2
abbrev s0 : DmaSem sig := sem0 cc0_scratch3
abbrev s1 : DmaSem sig := sem1 cc0_scratch3

theorem cell_ne {a b : DmaSem sig} (h : a ≠ b) : cell d L a ≠ cell d L b := fun e => h (by simpa [cell] using e)

theorem cell_own {a : DmaSem sig} (h : (SemLoc.dma a : SemLoc sig).isScoped .scVector = true) : cell d L a ∈ ownCells (thr d L) :=
  (SparseCore.Cfg.mem_ownCells (g := cell d L a)).mpr ⟨rfl, h⟩

/-- The subcore's cells apart from the four. -/
def restCells : Finset (GSem nD τ sig) :=
  ((((ownCells (thr d L)).erase (cell d L g0)).erase (cell d L g1)).erase (cell d L s0)).erase (cell d L s1)
/-- The subcore's buffers apart from its two rings. -/
def restRefs : Finset (DevRef τ sig) :=
  ((ownRefs (τ := τ) (.scVector (cV L) (jV L))).erase ((Proc.scVector (cV L) (jV L)).devRef cc0_scratch0)).erase ((Proc.scVector (cV L) (jV L)).devRef cc0_scratch1)

/-- The subcore's semaphores at zero are the four and the rest. -/
theorem ownSems0_V :
    (ownSems0 (thr d L) : sProp 𝕄)
      = iprop(SZ d L g0 ∗ SZ d L g1 ∗ SZ d L s0 ∗ SZ d L s1 ∗ bigSep (restCells d L) fun g => semVal g 0) := by
  unfold SparseCore.Cfg.ownSems0 restCells
  rw [SparseCore.bigSep_erase' (cell_own d L (a := g0) (by decide)),
    SparseCore.bigSep_erase' (i := cell d L g1) (Finset.mem_erase.mpr ⟨cell_ne d L (by decide), cell_own d L (by decide)⟩),
    SparseCore.bigSep_erase' (i := cell d L s0) (Finset.mem_erase.mpr ⟨cell_ne d L (by decide), Finset.mem_erase.mpr ⟨cell_ne d L (by decide), cell_own d L (by decide)⟩⟩),
    SparseCore.bigSep_erase' (i := cell d L s1) (Finset.mem_erase.mpr ⟨cell_ne d L (by decide), Finset.mem_erase.mpr ⟨cell_ne d L (by decide),
      Finset.mem_erase.mpr ⟨cell_ne d L (by decide), cell_own d L (by decide)⟩⟩⟩)]

/-- The subcore's buffers are the two rings, at some contents, and the rest. -/
theorem ownBufs_V :
    (ownBufs (thr d L) : sProp 𝕄)
      = iprop((∃ f : Buf (Elt F) (iLoc d L), iLoc d L ↦{fullShare} f) ∗ (∃ g : Buf (Elt F) (wLoc d L), wLoc d L ↦{fullShare} g)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

variable (m : (ℓ : Loc nD τ sig) → Buf (Elt F) ℓ)

/-- A task is handed its slab of the input and of the output at the launch's contents, -/
def goT : sProp 𝕄 := iprop(XB d L (m (xLoc d)) 0 8192 ∗ OB d L (m (oLoc d)) 0 8192)
/-- and hands back the input's as it was, and the output's at the running sums. -/
def tdT : sProp 𝕄 := iprop(XB d L (m (xLoc d)) 0 8192 ∗ OB d L (G (m (xLoc d))) 0 8192)

/-- The task of a tile. -/
theorem tile_body (O : CellTallies nD τ sig (HIx 1)) (W : Waits sig (HIx 1)) (hO : ∀ g, O g none = 0) :
    iprop(levAts (K (F := F)).L (K (F := F)).lev ∗ emp ∗ goT d L m ∗ scopedBufs (thr d L) ∗ scopedSems0 (thr d L) ∗ owes (thr d L) O W)
      ⊢ wpT d L (cc0__cumsum_body L xV (Memref.isWhole_whole _) oV (Memref.isWhole_whole _) iV (Memref.isWhole_whole _) wV (Memref.isWhole_whole _) cc0_scratch2 cc0_scratch3)
          fun _ => iprop(tdT d L m ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  unfold goT tdT
  iintro ⟨#Hlv, -, ⟨Hx, Ho⟩, ⟨Hi, Hw, Hbufs⟩, ⟨Hz0, Hz1, Hy0, Hy1, Hsems⟩, HO⟩
  ihave Hi' := (ring_in d L) $$ Hi
  icases Hi' with ⟨Hi0, Hi1⟩
  ihave Hw' := (ring_out d L) $$ Hw
  icases Hw' with ⟨Hw0, Hw1⟩
  ihave #Hmw := ((K (F := F)).mayWaits_none (thr := thr d L) hO) $$ Hlv
  unfold wpT
  iapply (wp_wand _ _ _) $$ [Hx Ho Hi0 Hi1 Hw0 Hw1 Hz0 Hz1 Hy0 Hy1 HO]
  · iapply (wp_body d L (m (xLoc d)) (m (oLoc d)) O W cc0_scratch2 cc0_scratch3)
    unfold Rings Sems0 Ow
    isplitl [Hx]; · iexact Hx
    isplitl [Ho]; · iexact Ho
    isplitl [Hi0 Hi1 Hw0 Hw1]
    · isplitl [Hi0]; · iexact Hi0
      isplitl [Hi1]; · iexact Hi1
      isplitl [Hw0] <;> iassumption
    isplitl [Hz0 Hz1 Hy0 Hy1]
    · isplitl [Hz0]; · iexact Hz0
      isplitl [Hz1]; · iexact Hz1
      isplitl [Hy0] <;> iassumption
    isplitr; · iexact Hmw
    iexists W
    isplitr; · ipureintro; exact fun p hp => .inl hp
    iexact HO
  unfold Rings Sems0 Ow
  iintro %_ ⟨Hx, Ho, ⟨Hi0, Hi1, Hw0, Hw1⟩, ⟨Hz0, Hz1, Hy0, Hy1⟩, -, HO⟩
  isplitl [Hx Ho]
  · isplitl [Hx] <;> iassumption
  isplitl [Hi0 Hi1 Hw0 Hw1 Hbufs]
  · isplitl [Hi0 Hi1]
    · iapply (slots_in d L); isplitl [Hi0] <;> iassumption
    isplitl [Hw0 Hw1]
    · iapply (slots_out d L); isplitl [Hw0] <;> iassumption
    iexact Hbufs
  isplitl [Hz0 Hz1 Hy0 Hy1 Hsems]
  · isplitl [Hz0]; · iexact Hz0
    isplitl [Hz1]; · iexact Hz1
    isplitl [Hy0]; · iexact Hy0
    isplitl [Hy1] <;> iassumption
  iexact HO

end Cert.KernelIdeal.Scan

end
-- ==== Proof.KernelIdeal.Launch.lean ====
/- The launch: the one call takes the two arrays, each tile its slab of both, and brings them back, the input as it was and
   the output at the running sums of the input's columns. -/
module

public import proofs.«01_k».proof.Proof.KernelIdeal.Tile

@[expose] public section

noncomputable section

namespace Cert.KernelIdeal.Scan

open Cert.KernelIdeal Cert.KernelIdeal.Gen
open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' slabs are the arrays -/

/-- The coordinates of a tile from its SparseCore and its subcore, as the program builds them. -/
def coordsV (c : Fin 2) (s : Fin 16) : grid0.Coords :=
  fun | 0 => c | 1 => s | ⟨_ + 2, h⟩ => absurd h (Nat.not_lt.2 (Nat.le_add_left _ _))

/-- A tile's whole slab, by its SparseCore and its subcore. -/
def tileSet (p : Fin 2 × Fin 16) : Finset S4x8192x2048.Idx := slab (coordsV p.1 p.2) 0 8192

theorem mem_tileSet {p : Fin 2 × Fin 16} {i : S4x8192x2048.Idx} :
    i ∈ tileSet p ↔ 2 * p.2.val + p.1.val = 8 * (i 0).val + (i 2).val / 256 := by
  have h0 : (i 0).val < 4 := (i 0).isLt
  have h1 : (i 1).val < 8192 := (i 1).isLt
  have h2 : (i 2).val < 2048 := (i 2).isLt
  unfold tileSet
  rw [mem_slab]
  show (i 0).val = (2 * p.2.val + p.1.val) / 8 ∧ (0 ≤ (i 1).val ∧ (i 1).val < 8192)
    ∧ ((2 * p.2.val + p.1.val) % 8 * 256 ≤ (i 2).val ∧ (i 2).val < (2 * p.2.val + p.1.val) % 8 * 256 + 256) ↔ _
  omega

theorem tiles_disjoint : ∀ p ∈ (Finset.univ : Finset (Fin 2 × Fin 16)), ∀ q ∈ (Finset.univ : Finset (Fin 2 × Fin 16)), p ≠ q → Disjoint (tileSet p) (tileSet q) := by
  intro p _ q _ h
  rw [Finset.disjoint_left]
  intro i hp hq
  rw [mem_tileSet] at hp hq
  have h1 := p.1.isLt
  have h2 := q.1.isLt
  exact h (Prod.ext (Fin.ext (by omega)) (Fin.ext (by omega)))

theorem tiles_cover : (Finset.univ : Finset (Fin 2 × Fin 16)).biUnion tileSet = Finset.univ := by
  ext i
  have h0 : (i 0).val < 4 := (i 0).isLt
  have h2 : (i 2).val < 2048 := (i 2).isLt
  simp only [Finset.mem_biUnion, Finset.mem_univ, true_and, iff_true]
  exact ⟨(⟨(8 * (i 0).val + (i 2).val / 256) % 2, by omega⟩, ⟨(8 * (i 0).val + (i 2).val / 256) / 2, by omega⟩), mem_tileSet.mpr (by dsimp only; omega)⟩

/-- Each array, whole, is the tiles' slabs of it. -/
theorem x_tiles (d : Dev nD) (f : Buf (Elt F) (xLoc d)) :
    (xLoc d ↦{fullShare} f : sProp 𝕄) = bigSep Finset.univ fun c : Fin 2 => bigSep Finset.univ fun s : Fin 16 => XB d (coordsV c s) f 0 8192 := by
  rw [show (xLoc d ↦{fullShare} f : sProp 𝕄) = bigSep Finset.univ fun p => xLoc d ↦[tileSet p]{fullShare} f from by
    rw [← pointsTo_biUnion Finset.univ (ℓ := xLoc d) tileSet tiles_disjoint, tiles_cover]]
  rw [← Finset.univ_product_univ, SparseCore.bigSep_product]; rfl
theorem o_tiles (d : Dev nD) (f : Buf (Elt F) (oLoc d)) :
    (oLoc d ↦{fullShare} f : sProp 𝕄) = bigSep Finset.univ fun c : Fin 2 => bigSep Finset.univ fun s : Fin 16 => OB d (coordsV c s) f 0 8192 := by
  rw [show (oLoc d ↦{fullShare} f : sProp 𝕄) = bigSep Finset.univ fun p => oLoc d ↦[tileSet p]{fullShare} f from by
    rw [← pointsTo_biUnion Finset.univ (ℓ := oLoc d) tileSet tiles_disjoint, tiles_cover]]
  rw [← Finset.univ_product_univ, SparseCore.bigSep_product]; rfl

/-! ## What the handshakes carry -/

theorem nSub_zero : (K (F := F)).nSub 0 = 16 := rfl
theorem nCore_zero : (K (F := F)).nCore 0 = 2 := rfl

/-- A SparseCore takes its tiles' slabs, each task its own. -/
def P : (K (F := F)).Pay (nD := nD) (Val := Elt F) (Name := ℕ) (U := UU) where
  st := fun q d c => match q with | 0 => bigSep Finset.univ fun s : Fin 16 => goT d (coordsV (Fin.cast nCore_zero c) s) m
  dn := fun q d c => match q with | 0 => bigSep Finset.univ fun s : Fin 16 => tdT d (coordsV (Fin.cast nCore_zero c) s) m
  go := fun q d c i => match q with | 0 => goT d (coordsV (Fin.cast nCore_zero c) (Fin.cast nSub_zero i)) m
  td := fun q d c i => match q with | 0 => tdT d (coordsV (Fin.cast nCore_zero c) (Fin.cast nSub_zero i)) m
  x := fun _ _ => iprop(emp)

instance goT_storable (d : Dev nD) (L : grid0.Coords) : BI.Storable (upEmb : UEmb _ 𝕄) (goT d L m) := by unfold goT; infer_instance
instance tdT_storable (d : Dev nD) (L : grid0.Coords) : BI.Storable (upEmb : UEmb _ 𝕄) (tdT d L m) := by unfold tdT; infer_instance

instance P_storable : (P (F := F) m).IsStorable where
  st q d c := match q with
    | 0 => (inferInstance : BI.Storable (upEmb : UEmb _ 𝕄) (bigSep Finset.univ fun s : Fin 16 => goT d (coordsV (Fin.cast nCore_zero c) s) m))
  dn q d c := match q with
    | 0 => (inferInstance : BI.Storable (upEmb : UEmb _ 𝕄) (bigSep Finset.univ fun s : Fin 16 => tdT d (coordsV (Fin.cast nCore_zero c) s) m))
  go q d c i := match q with | 0 => goT_storable m d (coordsV (Fin.cast nCore_zero c) (Fin.cast nSub_zero i))
  td q d c i := match q with | 0 => tdT_storable m d (coordsV (Fin.cast nCore_zero c) (Fin.cast nSub_zero i))

/-! ## The launch theorem's obligations -/

theorem defs₀_vector (c : Fin τ.nSC) (s : Fin τ.nSub) :
    defs₀ (F := F) (.scVector c s) 0 ()
      = SparseCore.onTile hcore0 hsub0 (fun c s => cc0__cumsum_body (coordsV c s) xV (Memref.isWhole_whole _) oV (Memref.isWhole_whole _) iV (Memref.isWhole_whole _) wV (Memref.isWhole_whole _) cc0_scratch2 cc0_scratch3) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => goT d (coordsV (Fin.cast nCore_zero c) s) m) ⊢ |={Set.univ}=> iprop(
      (bigSep Finset.univ fun i : Fin ((K (F := F)).nSub 0) => goT d (coordsV (Fin.cast nCore_zero c) (Fin.cast nSub_zero i)) m)
      ∗ ((bigSep Finset.univ fun i : Fin ((K (F := F)).nSub 0) => tdT d (coordsV (Fin.cast nCore_zero c) (Fin.cast nSub_zero i)) m)
          -∗ bigSep Finset.univ fun s : Fin 16 => tdT d (coordsV (Fin.cast nCore_zero c) s) m))
  rw [bigSep_tasks (F := F) (fun s => goT d (coordsV (Fin.cast nCore_zero c) s) m), bigSep_tasks (F := F) (fun s => tdT d (coordsV (Fin.cast nCore_zero c) s) m)]
  iintro H; imodintro
  isplitl [H]; · iexact H
  iintro H; iexact H

/-- The launch's ghost element: the handshakes' rounds, and no transfers. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide, SparseCore.bigSep_insert' (by decide), bigSep_singleton]

/-- What the call takes and what it brings back: the arrays, whole. -/
theorem st0_eq (d : Dev nD) :
    (bigSep Finset.univ fun c : Fin ((K (F := F)).nCore 0) => (P m).st 0 d c) = iprop((xLoc d ↦{fullShare} m (xLoc d)) ∗ oLoc d ↦{fullShare} m (oLoc d)) := by
  rw [x_tiles, o_tiles, ← bigSep_sep']
  refine (bigSep_cores (F := F) fun c => bigSep Finset.univ fun s : Fin 16 => goT d (coordsV c s) m).trans (bigSep_congr fun c _ => ?_)
  unfold goT
  rw [bigSep_sep']
theorem dn0_eq (d : Dev nD) :
    (bigSep Finset.univ fun c : Fin ((K (F := F)).nCore 0) => (P m).dn 0 d c) = iprop((xLoc d ↦{fullShare} m (xLoc d)) ∗ oLoc d ↦{fullShare} G (m (xLoc d))) := by
  rw [x_tiles, o_tiles, ← bigSep_sep']
  refine (bigSep_cores (F := F) fun c => bigSep Finset.univ fun s : Fin 16 => tdT d (coordsV c s) m).trans (bigSep_congr fun c _ => ?_)
  unfold tdT
  rw [bigSep_sep']

abbrev FIN (d : Dev nD) : sProp 𝕄 := iprop((xLoc d ↦{fullShare} m (xLoc d)) ∗ oLoc d ↦{fullShare} G (m (xLoc d)))

/-- @main on a device's TensorCore: the one call, from the two arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = m (xLoc d) ∧ s'.mem.mem (oLoc d) = G (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := G (m (xLoc d)))) $$ [HSI Ho]
  · isplitl [HSI] <;> iassumption
  icases H with %h2
  ipureintro; exact ⟨funext fun i => h1 i (Finset.mem_univ i), funext fun i => h2 i (Finset.mem_univ i)⟩

/-! ## The program's run -/

/-- The input as it was, the output at the running sums of its columns, every semaphore at zero. -/
def QC : PUnit × MemSt nD τ sig (Elt F) → Prop :=
  fun r => (∀ c : Dev nD, r.2.mem (xLoc c) = m (xLoc c) ∧ r.2.mem (oLoc c) = G (m (xLoc c))) ∧ r.2.sem = fun _ => 0

/-- Every run of the program ends there. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Scan

end
-- ==== Proof.Reference.lean ====
/- The reference is the kernel's value. The reference sums, for each element, a window of 8192 rows that ends at the
   element's row, the rows before the array's first reading as zero: zero and more zeros, then the column's elements from
   the first row down to the element's own, in that order, which is the kernel's running sum. -/
module

public import proofs.«01_k».proof.Proof.KernelIdeal.Geometry
public import proofs.«01_k».proof.Proof.Gen.ReferenceIdeal
public import Idealize.ShloMosaic.Lib.IdealHost

@[expose] public section

noncomputable section

namespace Cert.Proof

open Idealize.ShloMosaic
open Cert.KernelIdeal.Scan (csum G idx3 idx3_eq)

/-- The sum, from zero, of the first `n` values of a sequence, in their order. -/
def partSum (g : ℕ → EReal) : ℕ → EReal
  | 0 => 0
  | n + 1 => partSum g n + g n

/-- A left fold of additions over the numbers below `n` is that sum. -/
theorem fold_partSum (g : ℕ → EReal) (n : ℕ) : (List.finRange n).foldl (fun r k => r + g k.val) 0 = partSum g n := by
  have h : (List.finRange n).foldl (fun r k => r + g k.val) 0 = (List.range n).foldl (fun r k => r + g k) 0 := by
    rw [← List.map_coe_finRange_eq_range, List.foldl_map]
  rw [h]; clear h
  induction n with
  | zero => rfl
  | succ n ih => rw [List.range_succ, List.foldl_append, ih]; rfl

/-- Leading zeros add nothing. -/
theorem partSum_zero {g : ℕ → EReal} {n : ℕ} (h : ∀ k < n, g k = 0) : partSum g n = 0 := by
  induction n with
  | zero => rfl
  | succ n ih => rw [partSum, ih fun k hk => h k (by omega), h n (by omega), add_zero]

/-- What the window at row `r` of column `(b, c)` reads at its position `n`: the column's element of row `r + n - 8191`, or zero
    where there is none. -/
def winVal (x : Cert.KernelIdeal.S4x8192x2048.Idx → EReal) (b r c n : ℕ) : EReal := if 8191 ≤ r + n then x (idx3 b (r + n - 8191) c) else 0

/-- The window's sum after the zeros and `t` rows is the column's running sum of `t` rows. -/
theorem partSum_winVal (x : Cert.KernelIdeal.S4x8192x2048.Idx → EReal) {b r c : ℕ} (hr : r < 8192) (t : ℕ) :
    partSum (winVal x b r c) (8191 - r + t) = csum (F := Ideal) x b c t := by
  induction t with
  | zero =>
    rw [Nat.add_zero, partSum_zero (g := winVal x b r c) (n := 8191 - r) fun k hk => if_neg (by omega)]
    exact Ideal.ofBits_zero_f32.symm
  | succ t ih =>
    rw [← Nat.add_assoc, partSum, ih, winVal, if_pos (by omega), show r + (8191 - r + t) - 8191 = t by omega]
    rfl

/-- The window's position with number `n`. -/
abbrev winIdx (n : Fin (Shape.numel ⟨3, ![1, 8192, 1]⟩)) : (⟨3, ![1, 8192, 1]⟩ : Shape).Idx := (Shape.rowMajor ⟨3, ![1, 8192, 1]⟩).symm n

/-- The reference's operations, applied to an array: the array of the running sums of its columns. -/
theorem reference_eq (x : FVec Ideal Cert.ReferenceIdeal.S4x8192x2048 .f32)
    (h : Cert.ReferenceIdeal.S4x8192x2048.ReduceWindows (![1, 8192, 1] : Fin 3 → Nat) ![1, 1, 1] ![0, 8191, 0] ![0, 0, 0] Cert.ReferenceIdeal.S4x8192x2048)
    (hb : Cert.ReferenceIdeal.S_.BroadcastsInDim Cert.ReferenceIdeal.S_ (![] : Fin 0 → Fin Cert.ReferenceIdeal.S_.rank)) (hu : 0 < Cert.ReferenceIdeal.S_.numel) :
    Host.reduceWindowAdd ![1, 8192, 1] ![1, 1, 1] ![0, 8191, 0] ![0, 0, 0] x
      (broadcastInDim Cert.ReferenceIdeal.S_ ![] hb (constant (F := Ideal) Cert.ReferenceIdeal.S_ .f32 0x00000000#32)) h hu = G (F := Ideal) x := by
  funext j
  have h0 : (j 0).val < 4 := (j 0).isLt
  have h1 : (j 1).val < 8192 := (j 1).isLt
  have h2 : (j 2).val < 2048 := (j 2).isLt
  have hz : (broadcastInDim Cert.ReferenceIdeal.S_ ![] hb (constant (F := Ideal) Cert.ReferenceIdeal.S_ .f32 0x00000000#32)) (Shape.Idx.first hu) = (0 : EReal) :=
    Ideal.ofBits_zero_f32
  have hN : Shape.numel ⟨3, ![1, 8192, 1]⟩ = 8191 - (j 1).val + ((j 1).val + 1) := by
    rw [show Shape.numel ⟨3, ![1, 8192, 1]⟩ = 8192 from by decide]; omega
  unfold Host.reduceWindowAdd
  rw [hz, Ideal.hostReduceWindowAdd_def]
  unfold Ideal.hostReduceWindowAdd Host.reduceWindow G
  rw [← partSum_winVal x h1, ← hN, ← fold_partSum]
  refine congrArg (fun f => List.foldl f (0 : EReal) (List.finRange (Shape.numel ⟨3, ![1, 8192, 1]⟩))) ?_
  funext r n
  refine congrArg (r + ·) ?_
  have e0 : (winIdx n 0).val < 1 := Fin.isLt _
  have e1 : (winIdx n 1).val < 8192 := Fin.isLt _
  have e2 : (winIdx n 2).val < 1 := Fin.isLt _
  have hn : n.val = (winIdx n 1).val := by
    have h := Shape.rowMajor_val_three (d := ![1, 8192, 1]) (winIdx n)
    rw [Equiv.apply_symm_apply] at h
    refine h.trans ?_
    show ((winIdx n 0).val * 8192 + (winIdx n 1).val) * 1 + (winIdx n 2).val = _
    omega
  rw [winVal, hn]
  by_cases hp : 8191 ≤ (j 1).val + (winIdx n 1).val
  · rw [if_pos hp, dif_pos]
    · refine congrArg x (idx3_eq _ ?_ ?_ ?_).symm
      · show (j 0).val * 1 + (winIdx n 0).val - 0 = _; omega
      · show (j 1).val * 1 + (winIdx n 1).val - 8191 = _; omega
      · show (j 2).val * 1 + (winIdx n 2).val - 0 = _; omega
    · intro a
      match a with
      | ⟨0, _⟩ => exact ⟨Nat.zero_le _, show (j 0).val * 1 + (winIdx n 0).val - 0 < 4 by omega⟩
      | ⟨1, _⟩ => exact ⟨show 8191 ≤ (j 1).val * 1 + (winIdx n 1).val by omega, show (j 1).val * 1 + (winIdx n 1).val - 8191 < 8192 by omega⟩
      | ⟨2, _⟩ => exact ⟨Nat.zero_le _, show (j 2).val * 1 + (winIdx n 2).val - 0 < 2048 by omega⟩
  · rw [if_neg hp, dif_neg]
    intro hin
    have := (hin 1).1
    have : 8191 ≤ (j 1).val * 1 + (winIdx n 1).val := this
    omega

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Reference
public import Idealize.ShloMosaic.Adequacy
public import Idealize.ShloMosaic.Init

@[expose] public section

noncomputable section

namespace Cert.Proof

open Idealize.ShloMosaic Idealize.SL.Sem

/-- Every run of the kernel, floats at their formats, ends with the input as it was and every semaphore at zero. -/
theorem frame_Kernel : Cert.quiescent_Kernel := fun m ρ _ =>
  (θ_run _ _ _).mono (fun _ h => ⟨fun c => (h.1 c).1, h.2⟩) (Cert.Kernel.Scan.run_main (F := Bits) m ρ)

/-- So does every run of the idealized kernel. -/
theorem frame_KernelIdeal : Cert.quiescent_KernelIdeal := fun m ρ _ =>
  (θ_run _ _ _).mono (fun _ h => ⟨fun c => (h.1 c).1, h.2⟩) (Cert.KernelIdeal.Scan.run_main (F := Ideal) m ρ)

/-- The reference's runs end with its input as it was; it has no semaphore. -/
theorem frame_ReferenceIdeal : Cert.quiescent_ReferenceIdeal := fun m ρ _ =>
  (θ_run _ _ _).mono (fun r h => ⟨fun c => (h c).2, funext fun g => nomatch g.2⟩) (Cert.ReferenceIdeal.Value.run (F := Ideal) m ρ)

/-- The kernel's result and the reference's are the running sums of the input's columns. -/
theorem value : Cert.algebraic_KernelIdeal_ReferenceIdeal := fun m g m' g' _ hm =>
  ⟨fun c => Cert.KernelIdeal.Scan.G (F := Ideal) (m ((c.tc : Thread Cert.KernelIdeal.nD Cert.KernelIdeal.τ).loc Cert.KernelIdeal.main_arg0)),
    (θ_run _ _ _).mono (fun _ h c => ⟨(h.1 c).2, (h.1 c).1⟩) (Cert.KernelIdeal.Scan.run_main (F := Ideal) m g),
    (θ_run _ _ _).mono (fun _ h c => ⟨(h c).1.trans ((reference_eq _ _ _ _).trans (congrArg (Cert.KernelIdeal.Scan.G (F := Ideal)) (hm c))), (h c).2⟩)
      (Cert.ReferenceIdeal.Value.run (F := Ideal) m' g')⟩

/-- Every claim. -/
theorem claim : Cert.Claim :=
  ⟨Cert.Kernel.Gen.facts, Cert.KernelIdeal.Gen.facts, Cert.ReferenceIdeal.Gen.facts,
    frame_Kernel, frame_KernelIdeal, frame_ReferenceIdeal, trivial, value⟩

end Cert.Proof

end
